-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x2048 : Shape := ⟨3, ![4, 256, 2048]⟩
abbrev S5632x2048 : Shape := ⟨2, ![5632, 2048]⟩
abbrev S5632 : Shape := ⟨1, ![5632]⟩
abbrev S1024x2048 : Shape := ⟨2, ![1024, 2048]⟩
abbrev S1x5632 : Shape := ⟨2, ![1, 5632]⟩
abbrev S1024x5632 : Shape := ⟨2, ![1024, 5632]⟩
abbrev S1x2048 : Shape := ⟨2, ![1, 2048]⟩
abbrev S1024x1 : Shape := ⟨2, ![1024, 1]⟩
abbrev S512x2048 : Shape := ⟨2, ![512, 2048]⟩
abbrev S1x512 : Shape := ⟨2, ![1, 512]⟩
abbrev S1024x512 : Shape := ⟨2, ![1024, 512]⟩
abbrev S2048 : Shape := ⟨1, ![2048]⟩
abbrev S128x2048 : Shape := ⟨2, ![128, 2048]⟩
abbrev S128 : Shape := ⟨1, ![128]⟩
abbrev S128x1 : Shape := ⟨2, ![128, 1]⟩
abbrev S4x256x5632 : Shape := ⟨3, ![4, 256, 5632]⟩
abbrev S4x256 : Shape := ⟨2, ![4, 256]⟩

abbrev nBuf : Space → Nat
  | .hbm => 15
  | .vmem => 14
  | .smem => 0
  | _ => 0

abbrev bufTy : (tb : Table) → Fin (tcTables nBuf tb) → BufTy
  | .hbm, ⟨0, _⟩ => ⟨S4x256x2048, .bf16⟩
  | .hbm, ⟨1, _⟩ => ⟨S5632x2048, .i8⟩
  | .hbm, ⟨2, _⟩ => ⟨S5632, .f32⟩
  | .hbm, ⟨3, _⟩ => ⟨S1024x2048, .bf16⟩
  | .hbm, ⟨4, _⟩ => ⟨S1x5632, .f32⟩
  | .hbm, ⟨5, _⟩ => ⟨S1024x5632, .bf16⟩
  | .hbm, ⟨6, _⟩ => ⟨S1x2048, .i32⟩
  | .hbm, ⟨7, _⟩ => ⟨S1024x2048, .i8⟩
  | .hbm, ⟨8, _⟩ => ⟨S1024x1, .f32⟩
  | .hbm, ⟨9, _⟩ => ⟨S1024x1, .i32⟩
  | .hbm, ⟨10, _⟩ => ⟨S4x256x5632, .bf16⟩
  | .hbm, ⟨11, _⟩ => ⟨S2048, .i32⟩
  | .hbm, ⟨12, _⟩ => ⟨S4x256x2048, .i8⟩
  | .hbm, ⟨13, _⟩ => ⟨S4x256, .f32⟩
  | .hbm, ⟨14, _⟩ => ⟨S4x256, .i32⟩
  | .local _ .vmem, ⟨0, _⟩ => ⟨S1024x2048, .bf16⟩
  | .local _ .vmem, ⟨1, _⟩ => ⟨S512x2048, .i8⟩
  | .local _ .vmem, ⟨2, _⟩ => ⟨S512x2048, .i8⟩
  | .local _ .vmem, ⟨3, _⟩ => ⟨S1x512, .f32⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | .local _ .vmem, ⟨7, _⟩ => ⟨S1x2048, .i32⟩
  | .local _ .vmem, ⟨8, _⟩ => ⟨S1024x2048, .i8⟩
  | .local _ .vmem, ⟨9, _⟩ => ⟨S1024x1, .f32⟩
  | .local _ .vmem, ⟨10, _⟩ => ⟨S1024x1, .i32⟩
  | .local _ .vmem, ⟨11, _⟩ => ⟨S1024x2048, .bf16⟩
  | .local _ .vmem, ⟨12, _⟩ => ⟨S1024x2048, .bf16⟩
  | .local _ .vmem, ⟨13, _⟩ => ⟨S1024x1, .f32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c8_i32 : BitVec 32 := 8#32
  let v29 : BitVec 32 := Scalar.addi c0_i32_19 c8_i32
  let c1_i32 : BitVec 32 := 1#32
  ⟨c0_i32_19, v29, c1_i32⟩
def k0_off1 (k0_t1 : Fin k0_t1_loop.trips) : Fin 2 → Nat :=
  let c0_i32_19 : BitVec 32 := 0#32
  let c1_i32 : BitVec 32 := 1#32
  let arg12 : BitVec 32 := Scf.iv c0_i32_19 c1_i32 k0_t1
  let c128_i32 : BitVec 32 := 128#32
  let v30 : BitVec 32 := Scalar.muli arg12 c128_i32
  let v31 : Index := Scalar.indexCast v30
  let c0_21 : Index := 0#32
  ![v31.toNat, 0]
def k0_off2 (k0_t1 : Fin k0_t1_loop.trips) : Fin 2 → Nat :=
  let c0_i32_19 : BitVec 32 := 0#32
  let c1_i32 : BitVec 32 := 1#32
  let arg12 : BitVec 32 := Scf.iv c0_i32_19 c1_i32 k0_t1
  let c128_i32 : BitVec 32 := 128#32
  let v30 : BitVec 32 := Scalar.muli arg12 c128_i32
  let v89 : Index := Scalar.indexCast v30
  let c0_38 : Index := 0#32
  ![v89.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x256x2048 : Shape := ⟨3, ![4, 256, 2048]⟩
abbrev S5632x2048 : Shape := ⟨2, ![5632, 2048]⟩
abbrev S5632 : Shape := ⟨1, ![5632]⟩
abbrev S4x256x5632 : Shape := ⟨3, ![4, 256, 5632]⟩
abbrev S2048 : Shape := ⟨1, ![2048]⟩
abbrev S4x256 : Shape := ⟨2, ![4, 256]⟩
abbrev S1x1x2048 : Shape := ⟨3, ![1, 1, 2048]⟩
abbrev S4x256x1 : Shape := ⟨3, ![4, 256, 1]⟩
abbrev S1x1x5632 : Shape := ⟨3, ![1, 1, 5632]⟩

abbrev nBuf : Space → Nat
  | .hbm => 8
  | .vmem => 8
  | .smem => 0
  | _ => 0

abbrev bufTy : (tb : Table) → Fin (tcTables nBuf tb) → BufTy
  | .hbm, ⟨0, _⟩ => ⟨S4x256x2048, .bf16⟩
  | .hbm, ⟨1, _⟩ => ⟨S5632x2048, .i8⟩
  | .hbm, ⟨2, _⟩ => ⟨S5632, .f32⟩
  | .hbm, ⟨3, _⟩ => ⟨S4x256x5632, .bf16⟩
  | .hbm, ⟨4, _⟩ => ⟨S2048, .i32⟩
  | .hbm, ⟨5, _⟩ => ⟨S4x256x2048, .i8⟩
  | .hbm, ⟨6, _⟩ => ⟨S4x256, .f32⟩
  | .hbm, ⟨7, _⟩ => ⟨S4x256, .i32⟩
  | .local _ .vmem, ⟨0, _⟩ => ⟨S4x256x2048, .bf16⟩
  | .local _ .vmem, ⟨1, _⟩ => ⟨S5632x2048, .i8⟩
  | .local _ .vmem, ⟨2, _⟩ => ⟨S5632, .f32⟩
  | .local _ .vmem, ⟨3, _⟩ => ⟨S4x256x5632, .bf16⟩
  | .local _ .vmem, ⟨4, _⟩ => ⟨S2048, .i32⟩
  | .local _ .vmem, ⟨5, _⟩ => ⟨S4x256x2048, .i8⟩
  | .local _ .vmem, ⟨6, _⟩ => ⟨S4x256, .f32⟩
  | .local _ .vmem, ⟨7, _⟩ => ⟨S4x256, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5632x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Casts.lean ====
/-
  RESHAPES READ AT AN INDEX: the first two axes of an array merged into one or split again, a column of rows folded into a
  matrix, and a unit axis put in front or taken away. Stated at free sizes and for any array.
-/
module

public import Idealize.ShloMosaic.Lib.Pointwise
public import Idealize.ShloMosaic.Lib.Pipeline.Value

@[expose] public section

namespace Cert.Model

open Idealize.ShloMosaic

variable {α : Type} {N n0 n1 n2 : Nat}

/-- The first two axes merged: row `r = b · n1 + s` is row `(b, s)`. -/
theorem cast_merge (x : (⟨3, ![n0, n1, n2]⟩ : Shape).Idx → α) (h : (⟨3, ![n0, n1, n2]⟩ : Shape).ShapeCasts ⟨2, ![N, n2]⟩)
    (b : Fin n0) (s : Fin n1) (r : Fin N) (hr : r.val = b.val * n1 + s.val) (l : Fin n2) :
    shapeCast ⟨2, ![N, n2]⟩ x h (ix2 r l) = x (ix3 b s l) :=
  shapeCast_apply x h _ _ (by
    rw [Shape.rowMajor_val_three, Shape.rowMajor_val_two]
    show (b.val * n1 + s.val) * n2 + l.val = r.val * n2 + l.val
    rw [hr])

/-- The first axis split in two: row `(b, s)` is row `r = b · n1 + s`. -/
theorem cast_split (x : (⟨2, ![N, n2]⟩ : Shape).Idx → α) (h : (⟨2, ![N, n2]⟩ : Shape).ShapeCasts ⟨3, ![n0, n1, n2]⟩)
    (b : Fin n0) (s : Fin n1) (r : Fin N) (hr : r.val = b.val * n1 + s.val) (l : Fin n2) :
    shapeCast ⟨3, ![n0, n1, n2]⟩ x h (ix3 b s l) = x (ix2 r l) :=
  shapeCast_apply x h _ _ (by
    rw [Shape.rowMajor_val_three, Shape.rowMajor_val_two]
    show r.val * n2 + l.val = (b.val * n1 + s.val) * n2 + l.val
    rw [hr])

/-- A column folded into a matrix: entry `(b, s)` is row `r = b · n1 + s` of the column. -/
theorem cast_fold (x : (⟨2, ![N, 1]⟩ : Shape).Idx → α) (h : (⟨2, ![N, 1]⟩ : Shape).ShapeCasts ⟨2, ![n0, n1]⟩)
    (b : Fin n0) (s : Fin n1) (r : Fin N) (hr : r.val = b.val * n1 + s.val) :
    shapeCast ⟨2, ![n0, n1]⟩ x h (ix2 b s) = x (ix2 r 0) :=
  shapeCast_apply x h _ _ (by
    rw [Shape.rowMajor_val_two, Shape.rowMajor_val_two]
    show r.val * 1 + 0 = b.val * n1 + s.val
    rw [hr, Nat.mul_one, Nat.add_zero])

/-- A unit axis taken away. -/
theorem cast_unrow (x : (⟨2, ![1, n0]⟩ : Shape).Idx → α) (h : (⟨2, ![1, n0]⟩ : Shape).ShapeCasts ⟨1, ![n0]⟩) (l : Fin n0) :
    shapeCast ⟨1, ![n0]⟩ x h (ix1 l) = x (ix2 0 l) :=
  shapeCast_apply x h _ _ (by
    rw [Shape.rowMajor_val_two, Shape.rowMajor_val_one]
    show 0 * n0 + l.val = l.val
    rw [Nat.zero_mul, Nat.zero_add])

/-- A unit axis put in front. -/
theorem cast_torow (x : (⟨1, ![n0]⟩ : Shape).Idx → α) (h : (⟨1, ![n0]⟩ : Shape).ShapeCasts ⟨2, ![1, n0]⟩) (l : Fin n0) :
    shapeCast ⟨2, ![1, n0]⟩ x h (ix2 0 l) = x (ix1 l) :=
  shapeCast_apply x h _ _ (by
    rw [Shape.rowMajor_val_two, Shape.rowMajor_val_one]
    show l.val = 0 * n0 + l.val
    rw [Nat.zero_mul, Nat.zero_add])

end Cert.Model
-- ==== Proof.Reduce.lean ====
/-
  REDUCTIONS READ ALONG THEIR AXES. A maximum or minimum over the rows, the lanes or the two leading axes of an array,
  ideally, is the fold of `max` or `min` over those axes; an integer sum over the lanes is the fold of addition. Stated at
  free sizes and for any array.
-/
module

public import Idealize.ShloMosaic.Lib.Pointwise

@[expose] public section

noncomputable section

namespace Cert.Model

open Idealize.ShloMosaic

variable {n0 n1 n2 : Nat}

/-- A maximum over the rows of a matrix, at column `l`, is the maximum of the column. -/
theorem max_r2_a0 (v : FVec Ideal ⟨2, ![n0, n1]⟩ .f32) (acc : BitVec 32) (h : (⟨2, ![n0, n1]⟩ : Shape).Reduces [0] ⟨1, ![n1]⟩)
    (hφ : FKind.Formats .f32) (hacc : acc = FKind.maximumf.neutral .f32 hφ) (l : Fin n1) :
    multiReduction .maximumf [0] ⟨1, ![n1]⟩ v acc h hφ hacc (ix1 l)
      = (Finset.univ : Finset (Fin n0)).fold (max : EReal → EReal → EReal) (Ideal.ofBits .f32 acc) fun k => v (ix2 k l) := by
  refine (congrFun (multiReduction_maximumf_eq_reduceFold v acc h hφ hacc) (ix1 l)).trans ?_
  refine (reduceFold_eq_fold h (max : EReal → EReal → EReal) (Ideal.ofBits .f32 acc) v (ix1 l)).trans ?_
  exact h.fold_fiber_r2_a0 (ix1 l) max _ v

/-- A maximum over the lanes of a matrix, at row `r`, is the maximum of the row. -/
theorem max_r2_a1 (v : FVec Ideal ⟨2, ![n0, n1]⟩ .f32) (acc : BitVec 32) (h : (⟨2, ![n0, n1]⟩ : Shape).Reduces [1] ⟨1, ![n0]⟩)
    (hφ : FKind.Formats .f32) (hacc : acc = FKind.maximumf.neutral .f32 hφ) (r : Fin n0) :
    multiReduction .maximumf [1] ⟨1, ![n0]⟩ v acc h hφ hacc (ix1 r)
      = (Finset.univ : Finset (Fin n1)).fold (max : EReal → EReal → EReal) (Ideal.ofBits .f32 acc) fun k => v (ix2 r k) := by
  refine (congrFun (multiReduction_maximumf_eq_reduceFold v acc h hφ hacc) (ix1 r)).trans ?_
  refine (reduceFold_eq_fold h (max : EReal → EReal → EReal) (Ideal.ofBits .f32 acc) v (ix1 r)).trans ?_
  exact h.fold_fiber_r2_a1 (ix1 r) max _ v

/-- A minimum over the lanes of a matrix, at row `r`, is the minimum of the row. -/
theorem min_r2_a1 (v : FVec Ideal ⟨2, ![n0, n1]⟩ .f32) (acc : BitVec 32) (h : (⟨2, ![n0, n1]⟩ : Shape).Reduces [1] ⟨1, ![n0]⟩)
    (hφ : FKind.Formats .f32) (hacc : acc = FKind.minimumf.neutral .f32 hφ) (r : Fin n0) :
    multiReduction .minimumf [1] ⟨1, ![n0]⟩ v acc h hφ hacc (ix1 r)
      = (Finset.univ : Finset (Fin n1)).fold (min : EReal → EReal → EReal) (Ideal.ofBits .f32 acc) fun k => v (ix2 r k) := by
  refine (congrFun (multiReduction_minimumf_eq_reduceFold v acc h hφ hacc) (ix1 r)).trans ?_
  refine (reduceFold_eq_fold h (min : EReal → EReal → EReal) (Ideal.ofBits .f32 acc) v (ix1 r)).trans ?_
  exact h.fold_fiber_r2_a1 (ix1 r) min _ v

/-- A maximum over the lanes of a rank-3 array, at `(b, s)`, is the maximum of that row. -/
theorem max_r3_a2 (v : FVec Ideal ⟨3, ![n0, n1, n2]⟩ .f32) (acc : BitVec 32)
    (h : (⟨3, ![n0, n1, n2]⟩ : Shape).Reduces [2] ⟨2, ![n0, n1]⟩)
    (hφ : FKind.Formats .f32) (hacc : acc = FKind.maximumf.neutral .f32 hφ) (b : Fin n0) (s : Fin n1) :
    multiReduction .maximumf [2] ⟨2, ![n0, n1]⟩ v acc h hφ hacc (ix2 b s)
      = (Finset.univ : Finset (Fin n2)).fold (max : EReal → EReal → EReal) (Ideal.ofBits .f32 acc) fun k => v (ix3 b s k) := by
  refine (congrFun (multiReduction_maximumf_eq_reduceFold v acc h hφ hacc) (ix2 b s)).trans ?_
  refine (reduceFold_eq_fold h (max : EReal → EReal → EReal) (Ideal.ofBits .f32 acc) v (ix2 b s)).trans ?_
  exact h.fold_fiber_r3_a2 (ix2 b s) max _ v

/-- A minimum over the lanes of a rank-3 array, at `(b, s)`, is the minimum of that row. -/
theorem min_r3_a2 (v : FVec Ideal ⟨3, ![n0, n1, n2]⟩ .f32) (acc : BitVec 32)
    (h : (⟨3, ![n0, n1, n2]⟩ : Shape).Reduces [2] ⟨2, ![n0, n1]⟩)
    (hφ : FKind.Formats .f32) (hacc : acc = FKind.minimumf.neutral .f32 hφ) (b : Fin n0) (s : Fin n1) :
    multiReduction .minimumf [2] ⟨2, ![n0, n1]⟩ v acc h hφ hacc (ix2 b s)
      = (Finset.univ : Finset (Fin n2)).fold (min : EReal → EReal → EReal) (Ideal.ofBits .f32 acc) fun k => v (ix3 b s k) := by
  refine (congrFun (multiReduction_minimumf_eq_reduceFold v acc h hφ hacc) (ix2 b s)).trans ?_
  refine (reduceFold_eq_fold h (min : EReal → EReal → EReal) (Ideal.ofBits .f32 acc) v (ix2 b s)).trans ?_
  exact h.fold_fiber_r3_a2 (ix2 b s) min _ v

/-- The indices of a rank-3 array that lie over the lane `l` are those of lane coordinate `l`. -/
theorem fiber_r3_a01 (h : (⟨3, ![n0, n1, n2]⟩ : Shape).Reduces [0, 1] ⟨1, ![n2]⟩) (l : Fin n2)
    (i : (⟨3, ![n0, n1, n2]⟩ : Shape).Idx) :
    h.drop i = ix1 l ↔ ∃ p : Fin n0 × Fin n1, ix3 p.1 p.2 l = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.zero_lt_one⟩)).symm
  · rintro ⟨p, rfl⟩
    funext b
    apply Fin.ext
    match b with
    | ⟨0, _⟩ => rfl

/-- A maximum over the two leading axes of a rank-3 array, at lane `l`, is the maximum over all rows of that lane. -/
theorem max_r3_a01 (v : FVec Ideal ⟨3, ![n0, n1, n2]⟩ .f32) (acc : BitVec 32)
    (h : (⟨3, ![n0, n1, n2]⟩ : Shape).Reduces [0, 1] ⟨1, ![n2]⟩)
    (hφ : FKind.Formats .f32) (hacc : acc = FKind.maximumf.neutral .f32 hφ) (l : Fin n2) :
    multiReduction .maximumf [0, 1] ⟨1, ![n2]⟩ v acc h hφ hacc (ix1 l)
      = (Finset.univ : Finset (Fin n0 × Fin n1)).fold (max : EReal → EReal → EReal) (Ideal.ofBits .f32 acc)
          fun p => v (ix3 p.1 p.2 l) := by
  refine (congrFun (multiReduction_maximumf_eq_reduceFold v acc h hφ hacc) (ix1 l)).trans ?_
  refine (reduceFold_eq_fold h (max : EReal → EReal → EReal) (Ideal.ofBits .f32 acc) v (ix1 l)).trans ?_
  exact Finset.fold_filter_eq_fold_of_fiber max _ (fun p : Fin n0 × Fin n1 => ix3 p.1 p.2 l)
    (fun _ _ e => Prod.ext (congrFun e 0) (congrFun e 1)) (fiber_r3_a01 h l) _ v

/-- Two families equal at every index have the same greatest value. -/
theorem foldMax_congr {ι : Type} [Fintype ι] {c : EReal} {f g : ι → EReal} (h : ∀ i, f i = g i) :
    (Finset.univ : Finset ι).fold (max : EReal → EReal → EReal) c f = (Finset.univ : Finset ι).fold (max : EReal → EReal → EReal) c g := by
  rw [funext h]

/-- Two families equal at every index have the same least value. -/
theorem foldMin_congr {ι : Type} [Fintype ι] {c : EReal} {f g : ι → EReal} (h : ∀ i, f i = g i) :
    (Finset.univ : Finset ι).fold (min : EReal → EReal → EReal) c f = (Finset.univ : Finset ι).fold (min : EReal → EReal → EReal) c g := by
  rw [funext h]

/-- An integer sum over the lanes of a matrix, at row `n`, is the fold of addition over the row. -/
theorem add_r2_a1 (v : IVec ⟨2, ![n0, n1]⟩ 32) (acc : BitVec 32) (h : (⟨2, ![n0, n1]⟩ : Shape).Reduces [1] ⟨1, ![n0]⟩)
    (hacc : acc = IKind.add.neutral) (r : Fin n0) :
    multiReductionI .add [1] ⟨1, ![n0]⟩ v acc h hacc (ix1 r)
      = (Finset.univ : Finset (Fin n1)).fold IntOp.addi acc fun k => v (ix2 r k) := by
  refine (congrFun (multiReductionI_eq_reduceFold .add v acc h hacc) (ix1 r)).trans ?_
  refine (reduceFold_eq_fold h IntOp.addi acc v (ix1 r)).trans ?_
  exact h.fold_fiber_r2_a1 (ix1 r) IntOp.addi _ v

end Cert.Model
-- ==== Proof.Model.lean ====
/-
  THE MATHEMATICS OF ONE ROW, over the extended reals. A column of the activations is an outlier when the greatest
  magnitude in it exceeds six. A row with its outlier columns set to zero has a greatest value `amax` and a least value
  `amin` (zero counted in both), a scale `scaleOf`, a zero point `zeroOf` and codes `codeOf`. An entry of the product is
  `yOf`. Neither program is mentioned here.
-/
module

public import proofs.«01_k».proof.Proof.Reduce

@[expose] public section

noncomputable section

namespace Cert.Model

open Idealize.ShloMosaic

/-- The greatest magnitude of a finite family. -/
def magMax {ι : Type} [Fintype ι] (f : ι → EReal) : EReal :=
  (Finset.univ : Finset ι).fold (max : EReal → EReal → EReal) (Ideal.ofBits .f32 0xFF800000#32) fun i => max (f i) (-(f i))

/-- The greatest magnitude over 1024 rows, the rows taken as four groups of 256. -/
theorem magMax_flat (f : Fin 1024 → EReal) :
    magMax f = magMax fun p : Fin 4 × Fin 256 => f ⟨p.1.val * 256 + p.2.val, by omega⟩ := by
  have h := Finset.fold_filter_eq_fold_of_fiber (max : EReal → EReal → EReal) (fun _ : Fin 1024 => True)
    (fun p : Fin 4 × Fin 256 => (⟨p.1.val * 256 + p.2.val, by omega⟩ : Fin 1024))
    (fun p q e => by
      have e' : p.1.val * 256 + p.2.val = q.1.val * 256 + q.2.val := congrArg Fin.val e
      exact Prod.ext (Fin.ext (by omega)) (Fin.ext (by omega)))
    (fun i => ⟨fun _ => ⟨(⟨i.val / 256, by omega⟩, ⟨i.val % 256, by omega⟩), Fin.ext (by show i.val / 256 * 256 + i.val % 256 = i.val; omega)⟩,
      fun _ => trivial⟩)
    (Ideal.ofBits .f32 0xFF800000#32) (fun i => max (f i) (-(f i)))
  rw [Finset.filter_true_of_mem fun _ _ => trivial] at h
  exact h

/-- Whether a column of that greatest magnitude is an outlier. -/
def isOut (m : EReal) : BitVec 1 :=
  FloatOps.cmpf (F := Ideal) (φ := .f32) .ogt m (Ideal.ofBits .f32 0x40C00000#32)

/-- The row with the outlier columns set to zero. -/
def inlier (k : Fin 2048 → BitVec 1) (f : Fin 2048 → EReal) : Fin 2048 → EReal :=
  fun l => Scalar.select (k l) (Ideal.ofBits .f32 0x00000000#32) (f l)

/-- The row with all columns but the outlier ones set to zero. -/
def outlier (k : Fin 2048 → BitVec 1) (f : Fin 2048 → EReal) : Fin 2048 → EReal :=
  fun l => Scalar.select (k l) (f l) (Ideal.ofBits .f32 0x00000000#32)

/-- The greater of a value and zero. -/
def maxZero (v : EReal) : EReal := max v (Ideal.ofBits .f32 0x00000000#32)

/-- The lesser of a value and zero. -/
def minZero (v : EReal) : EReal := min v (Ideal.ofBits .f32 0x00000000#32)

/-- The greatest value of a row, zero counted. -/
def amax (z : Fin 2048 → EReal) : EReal :=
  maxZero ((Finset.univ : Finset (Fin 2048)).fold (max : EReal → EReal → EReal) (Ideal.ofBits .f32 0xFF800000#32) z)

/-- The least value of a row, zero counted. -/
def amin (z : Fin 2048 → EReal) : EReal :=
  minZero ((Finset.univ : Finset (Fin 2048)).fold (min : EReal → EReal → EReal) (Ideal.ofBits .f32 0x7F800000#32) z)

/-- The scale of a row of that greatest and least value: the 255th part of its range, one for a row of zeros. -/
def scaleFn (M m : EReal) : EReal :=
  Scalar.select (FloatOps.cmpf (F := Ideal) (φ := .f32) .oeq M m) (Ideal.ofBits .f32 0x3F800000#32)
    (Ideal.div (M - m) (Ideal.ofBits .f32 0x437F0000#32))

/-- The scale of a row. -/
def scaleOf (z : Fin 2048 → EReal) : EReal := scaleFn (amax z) (amin z)

/-- A value clipped to the range −128 … 127. -/
def clip (v : EReal) : EReal :=
  min (Ideal.ofBits .f32 0x42FE0000#32) (max (Ideal.ofBits .f32 0xC3000000#32) v)

/-- Rounding to the nearest integer, ties to even. -/
def rnd (v : EReal) : EReal := Ideal.liftRound Ideal.roundHalfEven v

/-- The zero point of a row. -/
def zeroOf (z : Fin 2048 → EReal) : EReal :=
  clip (Ideal.ofBits .f32 0xC3000000#32 - rnd (Ideal.div (amin z) (scaleOf z)))

/-- The codes of a row, as numbers. -/
def codeOf (z : Fin 2048 → EReal) (l : Fin 2048) : EReal :=
  clip (rnd (Ideal.div (z l) (scaleOf z)) + zeroOf z)

/-- One entry of the product: the quantized part times the row's scale, plus the outlier part, times the column's scale. -/
def yOf (k : Fin 2048 → BitVec 1) (f : Fin 2048 → EReal) (w : Fin 2048 → BitVec 8) (ws : EReal) : EReal :=
  ((∑ l, (codeOf (inlier k f) l - zeroOf (inlier k f)) * (((w l).toInt : ℝ) : EReal)) * scaleOf (inlier k f)
    + ∑ l, outlier k f l * (((w l).toInt : ℝ) : EReal)) * ws

end Cert.Model
-- ==== Proof.Blocks.lean ====
/- What the kernel's first grid point leaves in its buffers, as functions of the whole activation
   array: the rows are quantised 128 at a time, row block by row block, with one outlier mask for the
   whole array. -/
module

public import proofs.«01_k».proof.Proof.Gen.KernelIdeal.Skeleton
public import Idealize.ShloMosaic.Lib.Pipeline.FrameBody
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The row blocks -/

/-- The loop makes eight trips. -/
theorem trips_eq : k0_t1_loop.trips = 8 := by decide +kernel

/-- Trip `k` works at the rows from `128 * k` on, all columns; -/
theorem off1_eq : ∀ k : Fin k0_t1_loop.trips, k0_off1 k = ![128 * k.val, 0] := by decide +kernel
/-- the same of the one-column buffers. -/
theorem off2_eq : ∀ k : Fin k0_t1_loop.trips, k0_off2 k = ![128 * k.val, 0] := by decide +kernel

theorem off1_inb (k : Fin k0_t1_loop.trips) : ∀ a, k0_off1 k a + S128x2048.size a ≤ S1024x2048.size a := by
  have hk : k.val < 8 := lt_of_lt_of_eq k.isLt trips_eq
  rw [off1_eq k]
  refine Fin.forall_fin_two.mpr ⟨?_, ?_⟩
  · show 128 * k.val + 128 ≤ 1024; omega
  · show 0 + 2048 ≤ 2048; omega

theorem off2_inb (k : Fin k0_t1_loop.trips) : ∀ a, k0_off2 k a + S128x1.size a ≤ S1024x1.size a := by
  have hk : k.val < 8 := lt_of_lt_of_eq k.isLt trips_eq
  rw [off2_eq k]
  refine Fin.forall_fin_two.mpr ⟨?_, ?_⟩
  · show 128 * k.val + 128 ≤ 1024; omega
  · show 0 + 1 ≤ 1; omega

/-- Trip `k`'s rectangle of an array of 2048 columns, -/
abbrev rect1 (k : Fin k0_t1_loop.trips) : Rect S1024x2048 := Rect.unit (k0_off1 k) S128x2048.size (off1_inb k)
/-- and of one column. -/
abbrev rect2 (k : Fin k0_t1_loop.trips) : Rect S1024x1 := Rect.unit (k0_off2 k) S128x1.size (off2_inb k)

/-- The trip that works on row `r`. -/
def tripOf (r : Fin 1024) : Fin k0_t1_loop.trips := ⟨r.val / 128, by rw [trips_eq]; omega⟩
/-- The place of row `r` in its row block. -/
def inTrip (r : Fin 1024) : Fin 128 := ⟨r.val % 128, by omega⟩

/-- Trip `k`'s row block of the activations. -/
def rowBlk (x : Vec F S1024x2048 .bf16) (k : Fin k0_t1_loop.trips) : Vec F S128x2048 .bf16 := View.ld x (rect1 k)

theorem rect1_idx (k : Fin k0_t1_loop.trips) (r : Fin 128) (l : Fin 2048) (a : Fin 1024) (ha : a.val = 128 * k.val + r.val) :
    (rect1 k).idx (ix2 r l) = (ix2 a l : S1024x2048.Idx) := by
  have h := off1_eq k
  funext b
  refine Fin.ext ?_
  match b with
  | ⟨0, _⟩ =>
    show k0_off1 k 0 + 1 * r.val = a.val
    rw [h, ha]; show 128 * k.val + 1 * r.val = _; omega
  | ⟨1, _⟩ =>
    show k0_off1 k 1 + 1 * l.val = l.val
    rw [h]; show 0 + 1 * l.val = _; omega

theorem rect2_idx (k : Fin k0_t1_loop.trips) (r : Fin 128) (l : Fin 1) (a : Fin 1024) (ha : a.val = 128 * k.val + r.val) :
    (rect2 k).idx (ix2 r l) = (ix2 a l : S1024x1.Idx) := by
  have h := off2_eq k
  funext b
  refine Fin.ext ?_
  match b with
  | ⟨0, _⟩ =>
    show k0_off2 k 0 + 1 * r.val = a.val
    rw [h, ha]; show 128 * k.val + 1 * r.val = _; omega
  | ⟨1, _⟩ =>
    show k0_off2 k 1 + 1 * l.val = l.val
    rw [h]; show 0 + 1 * l.val = _; omega

/-- The row block of row `r`, read at row `r`'s place, is row `r`. -/
theorem rowBlk_apply (x : Vec F S1024x2048 .bf16) (r : Fin 1024) (l : Fin 2048) :
    rowBlk x (tripOf r) (ix2 (inTrip r) l) = x (ix2 r l) := by
  show x ((rect1 (tripOf r)).idx (ix2 (inTrip r) l)) = _
  rw [rect1_idx _ _ _ r (by simp only [tripOf, inTrip]; omega)]

/-! ## Whole arrays put together from row blocks -/

/-- The array of 2048 columns whose row blocks are `f`. -/
def glue1 {α : Type} (f : Fin k0_t1_loop.trips → S128x2048.Idx → α) : S1024x2048.Idx → α :=
  fun y => f (tripOf (y 0)) (ix2 (inTrip (y 0)) (y 1))
/-- The array of one column whose row blocks are `f`. -/
def glue2 {α : Type} (f : Fin k0_t1_loop.trips → S128x1.Idx → α) : S1024x1.Idx → α :=
  fun y => f (tripOf (y 0)) (ix2 (inTrip (y 0)) (y 1))

theorem glue1_apply {α : Type} (f : Fin k0_t1_loop.trips → S128x2048.Idx → α) (r : Fin 1024) (l : Fin 2048) :
    glue1 f (ix2 r l) = f (tripOf r) (ix2 (inTrip r) l) := rfl
theorem glue2_apply {α : Type} (f : Fin k0_t1_loop.trips → S128x1.Idx → α) (r : Fin 1024) (l : Fin 1) :
    glue2 f (ix2 r l) = f (tripOf r) (ix2 (inTrip r) l) := rfl

theorem glue1_emb {α : Type} (f : Fin k0_t1_loop.trips → S128x2048.Idx → α) (k : Fin k0_t1_loop.trips) (x : S128x2048.Idx) :
    f k x = glue1 f ((rect1 k).idx x) := by
  have hk : k.val < 8 := lt_of_lt_of_eq k.isLt trips_eq
  obtain ⟨r, l, rfl⟩ : ∃ (r : Fin 128) (l : Fin 2048), x = ix2 r l := ⟨x 0, x 1, eq_ix2 x⟩
  rw [rect1_idx k r l ⟨128 * k.val + r.val, by omega⟩ rfl, glue1_apply]
  have e1 : tripOf ⟨128 * k.val + r.val, by omega⟩ = k := Fin.ext (by simp only [tripOf]; omega)
  have e2 : inTrip ⟨128 * k.val + r.val, by omega⟩ = r := Fin.ext (by simp only [inTrip]; omega)
  rw [e1, e2]

theorem glue2_emb {α : Type} (f : Fin k0_t1_loop.trips → S128x1.Idx → α) (k : Fin k0_t1_loop.trips) (x : S128x1.Idx) :
    f k x = glue2 f ((rect2 k).idx x) := by
  have hk : k.val < 8 := lt_of_lt_of_eq k.isLt trips_eq
  obtain ⟨r, l, rfl⟩ : ∃ (r : Fin 128) (l : Fin 1), x = ix2 r l := ⟨x 0, x 1, eq_ix2 x⟩
  rw [rect2_idx k r l ⟨128 * k.val + r.val, by omega⟩ rfl, glue2_apply]
  have e1 : tripOf ⟨128 * k.val + r.val, by omega⟩ = k := Fin.ext (by simp only [tripOf]; omega)
  have e2 : inTrip ⟨128 * k.val + r.val, by omega⟩ = r := Fin.ext (by simp only [inTrip]; omega)
  rw [e1, e2]

/-- Every index of a whole array lies in the rectangle of some trip; -/
theorem rect1_cover (y : S1024x2048.Idx) : ∃ k, y ∈ (rect1 k).set := by
  refine ⟨tripOf (y 0), (rect1 (tripOf (y 0))).mem_set.mpr fun a => ?_⟩
  have h := off1_eq (tripOf (y 0))
  match a with
  | ⟨0, _⟩ =>
    refine ⟨(inTrip (y 0)).val, (inTrip (y 0)).isLt, ?_⟩
    show (y 0).val = k0_off1 (tripOf (y 0)) 0 + 1 * _
    rw [h]; show (y 0).val = 128 * ((y 0).val / 128) + 1 * ((y 0).val % 128); omega
  | ⟨1, _⟩ =>
    refine ⟨(y 1).val, (y 1).isLt, ?_⟩
    show (y 1).val = k0_off1 (tripOf (y 0)) 1 + 1 * _
    rw [h]; show (y 1).val = 0 + 1 * (y 1).val; omega

/-- likewise of one column. -/
theorem rect2_cover (y : S1024x1.Idx) : ∃ k, y ∈ (rect2 k).set := by
  refine ⟨tripOf (y 0), (rect2 (tripOf (y 0))).mem_set.mpr fun a => ?_⟩
  have h := off2_eq (tripOf (y 0))
  match a with
  | ⟨0, _⟩ =>
    refine ⟨(inTrip (y 0)).val, (inTrip (y 0)).isLt, ?_⟩
    show (y 0).val = k0_off2 (tripOf (y 0)) 0 + 1 * _
    rw [h]; show (y 0).val = 128 * ((y 0).val / 128) + 1 * ((y 0).val % 128); omega
  | ⟨1, _⟩ =>
    refine ⟨(y 1).val, (y 1).isLt, ?_⟩
    show (y 1).val = k0_off2 (tripOf (y 0)) 1 + 1 * _
    rw [h]; show (y 1).val = 0 + 1 * (y 1).val; omega

/-! ## What the buffers hold -/

/-- The codes. -/
def CODES (x : Vec F S1024x2048 .bf16) : Vec F S1024x2048 .i8 := glue1 fun k => k0_pay14 (k0_pay1 x) (rowBlk x k)
/-- The row scales, as the kernel returns them, -/
def SCALE (x : Vec F S1024x2048 .bf16) : Vec F S1024x1 .f32 := glue2 fun k => k0_pay11 (k0_pay1 x) (rowBlk x k)
/-- the row zero points, -/
def ZERO (x : Vec F S1024x2048 .bf16) : Vec F S1024x1 .i32 := glue2 fun k => k0_pay5 (k0_pay12 (k0_pay1 x) (rowBlk x k))
/-- the codes less their zero points, kept for the later points, -/
def LHS (x : Vec F S1024x2048 .bf16) : Vec F S1024x2048 .bf16 :=
  glue1 fun k => k0_pay3 (k0_pay12 (k0_pay1 x) (rowBlk x k)) (k0_pay13 (k0_pay1 x) (rowBlk x k))
/-- the outlier columns of the activations, kept for the later points, -/
def XO (x : Vec F S1024x2048 .bf16) : Vec F S1024x2048 .bf16 := glue1 fun k => k0_pay4 x (k0_pay8 (rowBlk x k))
/-- and the row scales, kept for the later points. -/
def SS (x : Vec F S1024x2048 .bf16) : Vec F S1024x1 .f32 := glue2 fun k => k0_pay6 (k0_pay11 (k0_pay1 x) (rowBlk x k))

end Cert.KernelIdeal.Hand

end
-- ==== Proof.KerRead.lean ====
/-
  WHAT ONE ROW BLOCK OF THE KERNEL COMPUTES, at an index, in the terms of the row's mathematics: the outlier mask, the
  masked rows, their scales and zero points, the codes, the codes less their zero points, the outlier part, and a block of
  the product.
-/
module

public import proofs.«01_k».proof.Proof.Model
public import proofs.«01_k».proof.Proof.Blocks

@[expose] public section

set_option maxRecDepth 16384

noncomputable section

namespace Cert.KerRead

open Cert.KernelIdeal Cert.KernelIdeal.Gen Cert.Model
open Idealize.ShloMosaic

/-! ## The outlier mask -/

/-- The outlier mask of the activations `x`. -/
def mask (x : Vec Ideal S1024x2048 .bf16) (l : Fin 2048) : BitVec 1 := isOut (magMax fun r : Fin 1024 => x (ix2 r l))

/-- Comparing any row of magnitudes with six. -/
theorem out_aux (u : FVec Ideal S1x2048 .f32) (j : S1x2048.Idx) :
    cmpf .ogt u (broadcast S1x2048 (Scalar.ofBits .f32 0x40C00000#32)) j = isOut (u j) := rfl

/-- A vector as one row. -/
theorem cast_row (u : FVec Ideal S2048 .f32) (l : Fin 2048) :
    shapeCast S1x2048 u shapeCasts_S2048_S1x2048 (ix2 0 l) = u (ix1 l) := by
  pointwise []

/-- The magnitudes of the activations. -/
abbrev mags (x : Vec Ideal S1024x2048 .bf16) : FVec Ideal S1024x2048 .f32 :=
  absf (extf .f32 (shapeCast S1024x2048 x shapeCasts_S1024x2048_S1024x2048) bitsLt_bf16_f32)

/-- The magnitude of an element. -/
theorem abs_aux (x : Vec Ideal S1024x2048 .bf16) (i : S1024x2048.Idx) :
    mags x i = max (x i) (-(x i)) := by
  show absf (extf .f32 (shapeCast S1024x2048 x shapeCasts_S1024x2048_S1024x2048) bitsLt_bf16_f32 : FVec Ideal S1024x2048 .f32) i = _
  rw [shapeCast_id]
  rfl

/-- The kernel's greatest magnitude of a column. -/
theorem mag_apply (x : Vec Ideal S1024x2048 .bf16) (l : Fin 2048) :
    multiReduction .maximumf [0] S2048 (mags x)
        0xFF800000#32 reduces_S1024x2048_S2048 (.inl rfl) rfl (ix1 l)
      = magMax fun r : Fin 1024 => x (ix2 r l) :=
  (max_r2_a0 (n0 := 1024) (n1 := 2048) (mags x)
      0xFF800000#32 reduces_S1024x2048_S2048 (.inl rfl) rfl l).trans
    (foldMax_congr fun r => abs_aux x (ix2 r l))

/-- The kernel's mask is the outlier mask. -/
theorem pay1_apply (x : Vec Ideal S1024x2048 .bf16) (l : Fin 2048) : k0_pay1 x (ix2 0 l) = mask x l :=
  (out_aux (shapeCast S1x2048 (multiReduction .maximumf [0] S2048 (mags x)
        0xFF800000#32 reduces_S1024x2048_S2048 (.inl rfl) rfl) shapeCasts_S2048_S1x2048) (ix2 0 l)).trans
    (congrArg isOut ((cast_row (multiReduction .maximumf [0] S2048 (mags x)
        0xFF800000#32 reduces_S1024x2048_S2048 (.inl rfl) rfl) l).trans (mag_apply x l)))

/-- Bits widened to words. -/
theorem wide_aux (v : IVec S1x2048 1) (j : S1x2048.Idx) : extui 32 v natLt_1_32 j = (v j).setWidth 32 := rfl

/-- The kernel's mask, as words. -/
theorem pay2_apply (x : Vec Ideal S1024x2048 .bf16) (l : Fin 2048) : k0_pay2 x (ix2 0 l) = (mask x l).setWidth 32 :=
  (wide_aux (k0_pay1 x) (ix2 0 l)).trans (congrArg (BitVec.setWidth 32) (pay1_apply x l))

/-! ## One row block `x`, under any mask `k` -/

variable (k : IVec S1x2048 1) (x : Vec Ideal S128x2048 .bf16)

/-- Row `r` of the block with the outlier columns set to zero. -/
def zrow (r : Fin 128) : Fin 2048 → EReal := inlier (fun l => k (ix2 0 l)) fun l => x (ix2 r l)

/-- The block widened is the block. -/
theorem pay8_apply (i : S128x2048.Idx) : k0_pay8 x i = x i := by
  show (extf .f32 (shapeCast S128x2048 x shapeCasts_S128x2048_S128x2048) bitsLt_bf16_f32 : FVec Ideal S128x2048 .f32) i = _
  rw [shapeCast_id]
  rfl

/-- Masking by a row of bits, for any bits and arrays. -/
theorem mask_aux (k : IVec S1x2048 1) (u v : FVec Ideal S128x2048 .f32) (r : Fin 128) (l : Fin 2048) :
    select (broadcastTo S128x2048 (shapeCast S1x2048 k shapeCasts_S1x2048_S1x2048) broadcasts_S1x2048_S128x2048) u v (ix2 r l)
      = Scalar.select (k (ix2 0 l)) (u (ix2 r l)) (v (ix2 r l)) := by
  pointwise []

/-- The masked block. -/
theorem pay9_apply (r : Fin 128) (l : Fin 2048) : k0_pay9 k x (ix2 r l) = zrow k x r l := by
  refine (mask_aux k (broadcast S128x2048 (Scalar.ofBits .f32 0x00000000#32)) (k0_pay8 x) r l).trans ?_
  exact congrArg (fun t => Scalar.select (k (ix2 0 l)) (Ideal.ofBits .f32 0x00000000#32) t) (pay8_apply x (ix2 r l))

/-- A vector as one column. -/
theorem cast_col (u : FVec Ideal S128 .f32) (r : Fin 128) :
    shapeCast S128x1 u shapeCasts_S128_S128x1 (ix2 r 0) = u (ix1 r) := by
  pointwise []

/-- The lesser of an array's element and zero. -/
theorem min_aux (u : FVec Ideal S128x1 .f32) (j : S128x1.Idx) :
    minimumf u (broadcast S128x1 (Scalar.ofBits .f32 0x00000000#32)) j = minZero (u j) := rfl

/-- The least value of a row of the masked block. -/
theorem rowMin_apply (r : Fin 128) :
    multiReduction .minimumf [1] S128 (k0_pay9 k x) 0x7F800000#32 reduces_S128x2048_S128 (.inl rfl) rfl (ix1 r)
      = (Finset.univ : Finset (Fin 2048)).fold (min : EReal → EReal → EReal) (Ideal.ofBits .f32 0x7F800000#32) (zrow k x r) :=
  (min_r2_a1 (n0 := 128) (n1 := 2048) (k0_pay9 k x) 0x7F800000#32 reduces_S128x2048_S128 (.inl rfl) rfl r).trans
    (foldMin_congr fun l => pay9_apply k x r l)

/-- The greatest value of a row of the masked block. -/
theorem rowMax_apply (r : Fin 128) :
    multiReduction .maximumf [1] S128 (k0_pay9 k x) 0xFF800000#32 reduces_S128x2048_S128 (.inl rfl) rfl (ix1 r)
      = (Finset.univ : Finset (Fin 2048)).fold (max : EReal → EReal → EReal) (Ideal.ofBits .f32 0xFF800000#32) (zrow k x r) :=
  (max_r2_a1 (n0 := 128) (n1 := 2048) (k0_pay9 k x) 0xFF800000#32 reduces_S128x2048_S128 (.inl rfl) rfl r).trans
    (foldMax_congr fun l => pay9_apply k x r l)

/-- The block's least values. -/
theorem pay10_apply (r : Fin 128) : k0_pay10 k x (ix2 r 0) = amin (zrow k x r) :=
  (min_aux (shapeCast S128x1 (multiReduction .minimumf [1] S128 (k0_pay9 k x) 0x7F800000#32 reduces_S128x2048_S128 (.inl rfl) rfl) shapeCasts_S128_S128x1) (ix2 r 0)).trans
    (congrArg minZero ((cast_col (multiReduction .minimumf [1] S128 (k0_pay9 k x) 0x7F800000#32 reduces_S128x2048_S128 (.inl rfl) rfl) r).trans (rowMin_apply k x r)))

/-- The scale's last steps, for any columns of greatest and least values. -/
theorem scale_aux (u v : FVec Ideal S128x1 .f32) (j : S128x1.Idx) :
    select (cmpf .oeq (maximumf u (broadcast S128x1 (Scalar.ofBits .f32 0x00000000#32))) v) (broadcast S128x1 (Scalar.ofBits .f32 0x3F800000#32))
        (divf (subf (maximumf u (broadcast S128x1 (Scalar.ofBits .f32 0x00000000#32))) v) (broadcast S128x1 (Scalar.ofBits .f32 0x437F0000#32))) j
      = scaleFn (maxZero (u j)) (v j) := rfl

/-- The block's scales. -/
theorem pay11_apply (r : Fin 128) : k0_pay11 k x (ix2 r 0) = scaleOf (zrow k x r) :=
  (scale_aux (shapeCast S128x1 (multiReduction .maximumf [1] S128 (k0_pay9 k x) 0xFF800000#32 reduces_S128x2048_S128 (.inl rfl) rfl) shapeCasts_S128_S128x1) (k0_pay10 k x) (ix2 r 0)).trans
    (congr (congrArg scaleFn (congrArg maxZero ((cast_col (multiReduction .maximumf [1] S128 (k0_pay9 k x) 0xFF800000#32 reduces_S128x2048_S128 (.inl rfl) rfl) r).trans (rowMax_apply k x r))))
      (pay10_apply k x r))

/-- The zero point's last steps, for any columns of least values and scales. -/
theorem zero_aux (u v : FVec Ideal S128x1 .f32) (j : S128x1.Idx) :
    minimumf (broadcast S128x1 (Scalar.ofBits .f32 0x42FE0000#32)) (maximumf (broadcast S128x1 (Scalar.ofBits .f32 0xC3000000#32))
        (subf (broadcast S128x1 (Scalar.ofBits .f32 0xC3000000#32)) (roundeven (divf u v)))) j
      = clip (Ideal.ofBits .f32 0xC3000000#32 - rnd (Ideal.div (u j) (v j))) := rfl

/-- The block's zero points. -/
theorem pay12_apply (r : Fin 128) : k0_pay12 k x (ix2 r 0) = zeroOf (zrow k x r) := by
  refine (zero_aux (k0_pay10 k x) (k0_pay11 k x) (ix2 r 0)).trans ?_
  rw [pay10_apply, pay11_apply]
  rfl

/-- A column repeated along the lanes. -/
theorem bcast_col (u : FVec Ideal S128x1 .f32) (r : Fin 128) (l : Fin 2048) :
    broadcastTo S128x2048 u broadcasts_S128x1_S128x2048 (ix2 r l) = u (ix2 r 0) := by
  pointwise []

/-- The codes' last steps, for any array and repeated columns. -/
theorem code_aux (z u v : FVec Ideal S128x2048 .f32) (j : S128x2048.Idx) :
    minimumf (broadcast S128x2048 (Scalar.ofBits .f32 0x42FE0000#32)) (maximumf (broadcast S128x2048 (Scalar.ofBits .f32 0xC3000000#32))
        (addf (roundeven (divf z u)) v)) j
      = clip (rnd (Ideal.div (z j) (u j)) + v j) := rfl

/-- The block's codes, as numbers. -/
theorem pay13_apply (r : Fin 128) (l : Fin 2048) : k0_pay13 k x (ix2 r l) = codeOf (zrow k x r) l := by
  refine (code_aux (k0_pay9 k x) (broadcastTo S128x2048 (k0_pay11 k x) broadcasts_S128x1_S128x2048) (broadcastTo S128x2048 (k0_pay12 k x) broadcasts_S128x1_S128x2048) (ix2 r l)).trans ?_
  rw [bcast_col, bcast_col, pay9_apply, pay11_apply, pay12_apply]
  rfl

/-- A number written at 8 bits. -/
theorem code8_aux (u : FVec Ideal S128x2048 .f32) (j : S128x2048.Idx) : fptosi 8 u j = Ideal.fptosi 8 (u j) := rfl

/-- The block's codes. -/
theorem pay14_apply (r : Fin 128) (l : Fin 2048) : k0_pay14 k x (ix2 r l) = Ideal.fptosi 8 (codeOf (zrow k x r) l) :=
  (code8_aux (k0_pay13 k x) (ix2 r l)).trans (congrArg (Ideal.fptosi 8) (pay13_apply k x r l))

/-- A number written at 32 bits. -/
theorem zero32_aux (u : FVec Ideal S128x1 .f32) (j : S128x1.Idx) : k0_pay5 u j = Ideal.fptosi 32 (u j) := rfl

/-- The block's zero points, as words. -/
theorem pay5_apply (r : Fin 128) : k0_pay5 (k0_pay12 k x) (ix2 r 0) = Ideal.fptosi 32 (zeroOf (zrow k x r)) :=
  (zero32_aux (k0_pay12 k x) (ix2 r 0)).trans (congrArg (Ideal.fptosi 32) (pay12_apply k x r))

/-- Codes less their zero points, for any of them. -/
theorem lhs_aux (u : FVec Ideal S128x1 .f32) (v : FVec Ideal S128x2048 .f32) (r : Fin 128) (l : Fin 2048) :
    k0_pay3 u v (ix2 r l) = v (ix2 r l) - u (ix2 r 0) := by
  pointwise [k0_pay3]

/-- The block's codes less their zero points. -/
theorem pay3_apply (r : Fin 128) (l : Fin 2048) :
    k0_pay3 (k0_pay12 k x) (k0_pay13 k x) (ix2 r l) = codeOf (zrow k x r) l - zeroOf (zrow k x r) := by
  refine (lhs_aux (k0_pay12 k x) (k0_pay13 k x) r l).trans ?_
  rw [pay13_apply, pay12_apply]

/-- The scales kept are the scales. -/
theorem pay6_apply (r : Fin 128) : k0_pay6 (k0_pay11 k x) (ix2 r 0) = scaleOf (zrow k x r) := by
  show shapeCast S128x1 (k0_pay11 k x) shapeCasts_S128x1_S128x1 (ix2 r 0) = _
  rw [shapeCast_id, pay11_apply]

/-- The outlier part's last steps, for any mask and block. -/
theorem xo_aux (k : IVec S1x2048 1) (u : FVec Ideal S128x2048 .f32) (r : Fin 128) (l : Fin 2048) :
    shapeCast S128x2048 (truncf .bf16 (select (broadcastTo S128x2048 (shapeCast S1x2048 k shapeCasts_S1x2048_S1x2048) broadcasts_S1x2048_S128x2048)
        u (broadcast S128x2048 (Scalar.ofBits .f32 0x00000000#32)) : FVec Ideal S128x2048 .f32) bitsLt_bf16_f32 : FVec Ideal S128x2048 .bf16)
        shapeCasts_S128x2048_S128x2048 (ix2 r l)
      = Scalar.select (k (ix2 0 l)) (u (ix2 r l)) (Ideal.ofBits .f32 0x00000000#32) := by
  rw [shapeCast_id]
  exact mask_aux k u (broadcast S128x2048 (Scalar.ofBits .f32 0x00000000#32)) r l

/-- The block's outlier part, the mask taken from the whole activations `v`. -/
theorem pay4_apply (v : Vec Ideal S1024x2048 .bf16) (r : Fin 128) (l : Fin 2048) :
    k0_pay4 v (k0_pay8 x) (ix2 r l) = outlier (mask v) (fun l => x (ix2 r l)) l := by
  refine (xo_aux (k0_pay1 v) (k0_pay8 x) r l).trans ?_
  rw [pay1_apply, pay8_apply]
  rfl

/-! ## A block of the product -/

/-- A block of the product, for any operands. -/
theorem pay7_apply (w : Vec Ideal S512x2048 .i8) (u v : Vec Ideal S1024x2048 .bf16) (sc : Vec Ideal S1024x1 .f32) (ws : Vec Ideal S1x512 .f32)
    (r : Fin 1024) (n : Fin 512) :
    k0_pay7 w u v sc ws (ix2 r n)
      = ((∑ l : Fin 2048, u (ix2 r l) * (((w (ix2 n l)).toInt : ℝ) : EReal)) * sc (ix2 r 0)
          + ∑ l : Fin 2048, v (ix2 r l) * (((w (ix2 n l)).toInt : ℝ) : EReal)) * ws (ix2 0 n) := by
  pointwise [k0_pay7]
  rfl

end Cert.KerRead

end
-- ==== Proof.Points.lean ====
/- The kernel's points and memrefs: where the body's one conditional is taken, where an output
   window is left alone, and the staging and scratch buffers the body is called on, by name. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, k0_cond1, e0]
    word_cmp
   : ∀ t : Fin grid0.N, cond0_0 (grid0.coords t) ↔ t.val % 11 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .i32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x2048 .bf16 := Memref.whole cc0_scratch0
abbrev scM0_1 : Memref sig .tc .vmem S1024x2048 .bf16 := Memref.whole cc0_scratch1
abbrev scM0_2 : Memref sig .tc .vmem S1024x1 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.Data.lean ====
/- What the pipeline holds point by point: the input blocks, the kept arrays from the first point on,
   the block of the result at each point, and the other results from the first point on. -/
module

public import proofs.«01_k».proof.Proof.Points
public import proofs.«01_k».proof.Proof.Blocks
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The activations, as the region finds them. -/
abbrev XA (c : Dev nD) : Vec F S1024x2048 .bf16 := V m c main_v0

/-- The activations' block is the whole array at every point. -/
theorem iblk0_eq (c : Dev nD) (t : Fin cfg0.N) : iblk m c 0 t = XA m c := by
  have idx : ∀ t : Fin cfg0.N, win0_0.index t = ![0, 0] := (by decide +kernel : ∀ t : Fin grid0.N, _)
  blk_ext! [iblk, idx t]

/-- The kept arrays and the register, as the first point leaves them. -/
def kept0 (c : Dev nD) : sProp 𝕄 :=
  iprop((owns (c : Thread nD τ) scM0_0 fullShare (LHS (XA m c)) ∗ owns (c : Thread nD τ) scM0_1 fullShare (XO (XA m c))
    ∗ owns (c : Thread nD τ) scM0_2 fullShare (SS (XA m c))) ∗ (∃ r, prngReg c r))

/-- The proof data: before the first point the scratch holds anything, after it what the activations make it hold. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay7 (iblk m c 1 t) (LHS (XA m c)) (XO (XA m c)) (SS (XA m c)) (iblk m c 2 t)
    | ⟨4, _⟩ => k0_pay2 (XA m c)
    | ⟨5, _⟩ => CODES (XA m c)
    | ⟨6, _⟩ => SCALE (XA m c)
    | ⟨7, _⟩ => ZERO (XA m c)
  Φ t := if t.val = 0 then Pipeline.ΦA spec0 c else kept0 m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = k0_pay7 (iblk m c 1 t) (LHS (XA m c)) (XO (XA m c)) (SS (XA m c)) (iblk m c 2 t) := by dsimp only [dats]
theorem after0_4 (c : Dev nD) (t : Fin cfg0.N) : (dats m 0 c).after 4 t = k0_pay2 (XA m c) := by dsimp only [dats]
theorem after0_5 (c : Dev nD) (t : Fin cfg0.N) : (dats m 0 c).after 5 t = CODES (XA m c) := by dsimp only [dats]
theorem after0_6 (c : Dev nD) (t : Fin cfg0.N) : (dats m 0 c).after 6 t = SCALE (XA m c) := by dsimp only [dats]
theorem after0_7 (c : Dev nD) (t : Fin cfg0.N) : (dats m 0 c).after 7 t = ZERO (XA m c) := by dsimp only [dats]

theorem Phi_first (c : Dev nD) (t : Fin (cfg0.N + 1)) (h : t.val = 0) : (dats m 0 c).Φ t = Pipeline.ΦA spec0 c := by
  dsimp only [dats]; exact if_pos h
theorem Phi_later (c : Dev nD) (t : Fin (cfg0.N + 1)) (h : t.val ≠ 0) : (dats m 0 c).Φ t = kept0 m c := by
  dsimp only [dats]; exact if_neg h

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The windows stored at the first point only -/

/-- The result's window is never idle. -/
theorem liveAt0_3 : ∀ t : Fin cfg0.N, cfg0.idle 3 (grid0.coords t) = false := fun _ => rfl

/-- A window fetched nowhere, written back at the last point only and idle but at the first holds, at every later
    point, what the first point left. -/
theorem before_later (c : Dev nD) (w : Fin cfg0.W) (hf : ∀ t, (cfg0.win w).fetch t = false)
    (hfl : ∀ t : Fin cfg0.N, (cfg0.win w).flush t = true ↔ t.val % 11 = 10)
    (hi : ∀ t : Fin cfg0.N, cfg0.idle w (cfg0.grid.coords t) = false ↔ t.val % 11 = 0)
    (C : (cfg0.win w).block.Idx → Elt F (cfg0.win w).elt) (hk : ∀ t d, (dats m 0 c).kept w t d = C) :
    ∀ (n : ℕ) (h : n + 1 < cfg0.N) (d), (dats m 0 c).before w ⟨n + 1, h⟩ d = C := by
  have hN : cfg0.N = 11 := N_0
  intro n
  induction n with
  | zero =>
    intro h d
    rw [(dats m 0 c).before_of_pos w _ (by simp) (hf _), if_neg (fun e => by have := (hfl _).mp e; simp at this)]
    unfold Dat.left
    rw [(hi _).mpr (by simp)]
    exact hk _ d
  | succ n ih =>
    intro h d
    rw [(dats m 0 c).before_of_pos w _ (by simp) (hf _),
      if_neg (fun e => by have := (hfl _).mp e; simp only [Nat.add_sub_cancel] at this; omega)]
    unfold Dat.left
    have : cfg0.idle w (cfg0.grid.coords ⟨n + 1 + 1 - 1, Nat.lt_of_succ_lt h⟩) = true := by
      rw [← Bool.not_eq_false, hi]; simp only [Nat.add_sub_cancel]; omega
    rw [this]
    exact ih (by omega) d

/-- At a later point such a window's buffer, as the first point left it, is what the point is to leave. -/
theorem leaves_later (c : Dev nD) (w : Fin cfg0.W) (hfl : ∀ t : Fin cfg0.N, (cfg0.win w).flush t = true ↔ t.val % 11 = 10)
    (hi : ∀ t : Fin cfg0.N, cfg0.idle w (cfg0.grid.coords t) = false ↔ t.val % 11 = 0) (t : Fin cfg0.N) (h0 : t.val % 11 ≠ 0) (d)
    (hb : (dats m 0 c).before w t d = (dats m 0 c).after w t) :
    owns (c : Thread nD τ) ((cfg0.win w).stage (cfg0.slots t w)) fullShare ((dats m 0 c).before w t d) ⊢ ((dats m 0 c).leavesExact w t : sProp 𝕄) := by
  have e : cfg0.idle w (cfg0.grid.coords t) = true := by rw [← Bool.not_eq_false, hi]; exact h0
  unfold Dat.leavesExact
  rw [e]
  cases (cfg0.win w).flush t
  · dsimp only
    iintro H; iexists d; iexact H
  · dsimp only
    rw [hb]

theorem idle_iff (t : Fin cfg0.N) : (!(k0_cond1 (grid0.coords t) == 1#1)) = false ↔ t.val % 11 = 0 := by
  rw [← hcond0_0 t]; unfold cond0_0
  simp

theorem idle0_4 : ∀ t : Fin cfg0.N, cfg0.idle 4 (cfg0.grid.coords t) = false ↔ t.val % 11 = 0 := idle_iff
theorem before0_4 (c : Dev nD) (t : Fin cfg0.N) (h0 : t.val ≠ 0) (d) : (dats m 0 c).before 4 t d = k0_pay2 (XA m c) := by
  obtain ⟨n, hn⟩ := t
  obtain ⟨n, rfl⟩ := Nat.exists_eq_succ_of_ne_zero h0
  exact before_later m c 4 (fun _ => rfl) flush0_4 idle0_4 (k0_pay2 (XA m c)) (fun t d => by
    unfold Dat.kept; rw [after0_4]; rfl) n hn d
theorem leaves0_4 (c : Dev nD) (t : Fin cfg0.N) (h0 : t.val ≠ 0) (d) :
    owns (c : Thread nD τ) (ms0_4 t) fullShare ((dats m 0 c).before 4 t d) ⊢ ((dats m 0 c).leavesExact 4 t : sProp 𝕄) :=
  leaves_later m c 4 flush0_4 idle0_4 t (by have : t.val < 11 := lt_of_lt_of_eq t.isLt N_0; omega) d (by rw [before0_4 m c t h0, after0_4])

theorem idle0_5 : ∀ t : Fin cfg0.N, cfg0.idle 5 (cfg0.grid.coords t) = false ↔ t.val % 11 = 0 := idle_iff
theorem before0_5 (c : Dev nD) (t : Fin cfg0.N) (h0 : t.val ≠ 0) (d) : (dats m 0 c).before 5 t d = CODES (XA m c) := by
  obtain ⟨n, hn⟩ := t
  obtain ⟨n, rfl⟩ := Nat.exists_eq_succ_of_ne_zero h0
  exact before_later m c 5 (fun _ => rfl) flush0_5 idle0_5 (CODES (XA m c)) (fun t d => by
    unfold Dat.kept; rw [after0_5]; rfl) n hn d
theorem leaves0_5 (c : Dev nD) (t : Fin cfg0.N) (h0 : t.val ≠ 0) (d) :
    owns (c : Thread nD τ) (ms0_5 t) fullShare ((dats m 0 c).before 5 t d) ⊢ ((dats m 0 c).leavesExact 5 t : sProp 𝕄) :=
  leaves_later m c 5 flush0_5 idle0_5 t (by have : t.val < 11 := lt_of_lt_of_eq t.isLt N_0; omega) d (by rw [before0_5 m c t h0, after0_5])

theorem idle0_6 : ∀ t : Fin cfg0.N, cfg0.idle 6 (cfg0.grid.coords t) = false ↔ t.val % 11 = 0 := idle_iff
theorem before0_6 (c : Dev nD) (t : Fin cfg0.N) (h0 : t.val ≠ 0) (d) : (dats m 0 c).before 6 t d = SCALE (XA m c) := by
  obtain ⟨n, hn⟩ := t
  obtain ⟨n, rfl⟩ := Nat.exists_eq_succ_of_ne_zero h0
  exact before_later m c 6 (fun _ => rfl) flush0_6 idle0_6 (SCALE (XA m c)) (fun t d => by
    unfold Dat.kept; rw [after0_6]; rfl) n hn d
theorem leaves0_6 (c : Dev nD) (t : Fin cfg0.N) (h0 : t.val ≠ 0) (d) :
    owns (c : Thread nD τ) (ms0_6 t) fullShare ((dats m 0 c).before 6 t d) ⊢ ((dats m 0 c).leavesExact 6 t : sProp 𝕄) :=
  leaves_later m c 6 flush0_6 idle0_6 t (by have : t.val < 11 := lt_of_lt_of_eq t.isLt N_0; omega) d (by rw [before0_6 m c t h0, after0_6])

theorem idle0_7 : ∀ t : Fin cfg0.N, cfg0.idle 7 (cfg0.grid.coords t) = false ↔ t.val % 11 = 0 := idle_iff
theorem before0_7 (c : Dev nD) (t : Fin cfg0.N) (h0 : t.val ≠ 0) (d) : (dats m 0 c).before 7 t d = ZERO (XA m c) := by
  obtain ⟨n, hn⟩ := t
  obtain ⟨n, rfl⟩ := Nat.exists_eq_succ_of_ne_zero h0
  exact before_later m c 7 (fun _ => rfl) flush0_7 idle0_7 (ZERO (XA m c)) (fun t d => by
    unfold Dat.kept; rw [after0_7]; rfl) n hn d
theorem leaves0_7 (c : Dev nD) (t : Fin cfg0.N) (h0 : t.val ≠ 0) (d) :
    owns (c : Thread nD τ) (ms0_7 t) fullShare ((dats m 0 c).before 7 t d) ⊢ ((dats m 0 c).leavesExact 7 t : sProp 𝕄) :=
  leaves_later m c 7 flush0_7 idle0_7 t (by have : t.val < 11 := lt_of_lt_of_eq t.isLt N_0; omega) d (by rw [before0_7 m c t h0, after0_7])

end Cert.KernelIdeal.Hand

end
-- ==== Proof.LoopValue.lean ====
/- The quantising loop's value: after its eight trips each buffer it writes holds the whole array that
   the row blocks make up, whatever the buffer held before. -/
module

public import proofs.«01_k».proof.Proof.Blocks
public import proofs.«01_k».proof.Proof.Gen.KernelIdeal.Loops
public import proofs.«01_k».proof.Proof.Gen.KernelIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## One piece a trip -/

/-- A list of writes grown by one piece a trip, the pieces agreeing with one array `G` and covering it, leaves `G`. -/
theorem read_pieces {s : Shape} {e : EltTy} {sp : Space} (mr : Memref sig .tc sp s e) (f : mr.view.ty.Contents (Elt F))
    (L : Nat → List (View.Piece (Elt F) s e)) (P : Fin k0_t1_loop.trips → View.Piece (Elt F) s e) (h0 : L 0 = [])
    (hs : ∀ k : Fin k0_t1_loop.trips, L (k.val + 1) = [P k] ++ L k.val) (G : s.Idx → Elt F e)
    (hG : ∀ k x, (P k).2 x = G ((P k).1.emb x)) (hcov : ∀ y, ∃ k, y ∈ (P k).1.set) :
    mr.view.read (Elt F) (mr.view.writes (Elt F) f (L k0_t1_loop.trips)) = G := by
  have key : ∀ n, n ≤ k0_t1_loop.trips →
      (∀ p ∈ L n, ∃ k, p = P k) ∧ (∀ k : Fin k0_t1_loop.trips, k.val < n → P k ∈ L n) := by
    intro n
    induction n with
    | zero => intro _; rw [h0]; exact ⟨fun p hp => absurd hp List.not_mem_nil, fun k hk => absurd hk (Nat.not_lt_zero _)⟩
    | succ n ih =>
      intro hn
      obtain ⟨h1, h2⟩ := ih (by omega)
      rw [hs ⟨n, by omega⟩]
      refine ⟨fun p hp => ?_, fun k hk => ?_⟩
      · rcases List.mem_cons.mp hp with rfl | hp
        · exact ⟨_, rfl⟩
        · exact h1 p hp
      · rcases Nat.lt_succ_iff_lt_or_eq.mp hk with hk | hk
        · exact List.mem_cons_of_mem _ (h2 k hk)
        · subst hk
          exact List.mem_cons_self
  obtain ⟨h1, h2⟩ := key _ le_rfl
  funext y
  refine View.read_writes_apply_of_pieces _ _ G _ (fun p hp x => ?_) y ?_
  · obtain ⟨k, rfl⟩ := h1 p hp
    exact hG k x
  · obtain ⟨k, hk⟩ := hcov y
    exact ⟨P k, h2 k k.isLt, hk⟩

section Loop

variable (𝒱 : Variants)
  (c : Dev nD)
  (bd : Option 𝒱.V)
  (i : grid0.Coords)
  (arg1 : Memref sig .tc .vmem S1024x2048 .bf16)
  (harg1 : arg1.IsWhole)
  (arg2 : Memref sig .tc .vmem S512x2048 .i8)
  (harg2 : arg2.IsWhole)
  (arg3 : Memref sig .tc .vmem S1x512 .f32)
  (harg3 : arg3.IsWhole)
  (arg4 : Memref sig .tc .vmem S1024x512 .bf16)
  (harg4 : arg4.IsWhole)
  (arg5 : Memref sig .tc .vmem S1x2048 .i32)
  (harg5 : arg5.IsWhole)
  (arg6 : Memref sig .tc .vmem S1024x2048 .i8)
  (harg6 : arg6.IsWhole)
  (arg7 : Memref sig .tc .vmem S1024x1 .f32)
  (harg7 : arg7.IsWhole)
  (arg8 : Memref sig .tc .vmem S1024x1 .i32)
  (harg8 : arg8.IsWhole)
  (arg9 : Memref sig .tc .vmem S1024x2048 .bf16)
  (harg9 : arg9.IsWhole)
  (arg10 : Memref sig .tc .vmem S1024x2048 .bf16)
  (harg10 : arg10.IsWhole)
  (arg11 : Memref sig .tc .vmem S1024x1 .f32)
  (harg11 : arg11.IsWhole)
  (h1 : k0_cond1 i = 1#1) (x : Vec F S1024x2048 .bf16)

/-- What one trip writes into `arg6`: one piece. -/
theorem tripL_arg6 (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 h1 x (harg1.unread x) k).1 = [⟨rect1 k, k0_pay14 (k0_pay1 x) (rowBlk x k)⟩] := by
  have e : rowBlk x k = View.ld (arg1.view.read (Elt F) (harg1.unread x)) (rect1 k) := by rw [harg1.read_unread]; rfl
  rw [e]
  unfold tripL_k0_t1 trip_k0_t1
  rfl

/-- What `arg6` holds after the loop. -/
theorem loop_arg6 (f : arg6.view.ty.Contents (Elt F)) :
    arg6.view.read (Elt F) (arg6.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) k0_t1_loop.trips).1) = CODES x := by
  refine read_pieces arg6 f (fun n => (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) n).1)
    (fun k => ⟨rect1 k, k0_pay14 (k0_pay1 x) (rowBlk x k)⟩) rfl (fun k => ?_) _ (fun k y => ?_) rect1_cover
  · show (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) (k.val + 1)).1 = _
    rw [pb_k0_t1_succ]
    exact congrArg (· ++ _) (tripL_arg6 𝒱 c bd i arg1 harg1 arg2 harg2 arg3 harg3 arg4 harg4 arg5 harg5 arg6 harg6 arg7 harg7 arg8 harg8 arg9 harg9 arg10 harg10 arg11 harg11 h1 x k)
  · exact glue1_emb (fun k => k0_pay14 (k0_pay1 x) (rowBlk x k)) k y

/-- What one trip writes into `arg7`: one piece. -/
theorem tripL_arg7 (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 h1 x (harg1.unread x) k).2.1 = [⟨rect2 k, k0_pay11 (k0_pay1 x) (rowBlk x k)⟩] := by
  have e : rowBlk x k = View.ld (arg1.view.read (Elt F) (harg1.unread x)) (rect1 k) := by rw [harg1.read_unread]; rfl
  rw [e]
  unfold tripL_k0_t1 trip_k0_t1
  rfl

/-- What `arg7` holds after the loop. -/
theorem loop_arg7 (f : arg7.view.ty.Contents (Elt F)) :
    arg7.view.read (Elt F) (arg7.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) k0_t1_loop.trips).2.1) = SCALE x := by
  refine read_pieces arg7 f (fun n => (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) n).2.1)
    (fun k => ⟨rect2 k, k0_pay11 (k0_pay1 x) (rowBlk x k)⟩) rfl (fun k => ?_) _ (fun k y => ?_) rect2_cover
  · show (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) (k.val + 1)).2.1 = _
    rw [pb_k0_t1_succ]
    exact congrArg (· ++ _) (tripL_arg7 𝒱 c bd i arg1 harg1 arg2 harg2 arg3 harg3 arg4 harg4 arg5 harg5 arg6 harg6 arg7 harg7 arg8 harg8 arg9 harg9 arg10 harg10 arg11 harg11 h1 x k)
  · exact glue2_emb (fun k => k0_pay11 (k0_pay1 x) (rowBlk x k)) k y

/-- What one trip writes into `arg8`: one piece. -/
theorem tripL_arg8 (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 h1 x (harg1.unread x) k).2.2.1 = [⟨rect2 k, k0_pay5 (k0_pay12 (k0_pay1 x) (rowBlk x k))⟩] := by
  have e : rowBlk x k = View.ld (arg1.view.read (Elt F) (harg1.unread x)) (rect1 k) := by rw [harg1.read_unread]; rfl
  rw [e]
  unfold tripL_k0_t1 trip_k0_t1
  rfl

/-- What `arg8` holds after the loop. -/
theorem loop_arg8 (f : arg8.view.ty.Contents (Elt F)) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) k0_t1_loop.trips).2.2.1) = ZERO x := by
  refine read_pieces arg8 f (fun n => (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) n).2.2.1)
    (fun k => ⟨rect2 k, k0_pay5 (k0_pay12 (k0_pay1 x) (rowBlk x k))⟩) rfl (fun k => ?_) _ (fun k y => ?_) rect2_cover
  · show (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) (k.val + 1)).2.2.1 = _
    rw [pb_k0_t1_succ]
    exact congrArg (· ++ _) (tripL_arg8 𝒱 c bd i arg1 harg1 arg2 harg2 arg3 harg3 arg4 harg4 arg5 harg5 arg6 harg6 arg7 harg7 arg8 harg8 arg9 harg9 arg10 harg10 arg11 harg11 h1 x k)
  · exact glue2_emb (fun k => k0_pay5 (k0_pay12 (k0_pay1 x) (rowBlk x k))) k y

/-- What one trip writes into `arg9`: one piece. -/
theorem tripL_arg9 (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 h1 x (harg1.unread x) k).2.2.2.1 = [⟨rect1 k, k0_pay3 (k0_pay12 (k0_pay1 x) (rowBlk x k)) (k0_pay13 (k0_pay1 x) (rowBlk x k))⟩] := by
  have e : rowBlk x k = View.ld (arg1.view.read (Elt F) (harg1.unread x)) (rect1 k) := by rw [harg1.read_unread]; rfl
  rw [e]
  unfold tripL_k0_t1 trip_k0_t1
  rfl

/-- What `arg9` holds after the loop. -/
theorem loop_arg9 (f : arg9.view.ty.Contents (Elt F)) :
    arg9.view.read (Elt F) (arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) k0_t1_loop.trips).2.2.2.1) = LHS x := by
  refine read_pieces arg9 f (fun n => (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) n).2.2.2.1)
    (fun k => ⟨rect1 k, k0_pay3 (k0_pay12 (k0_pay1 x) (rowBlk x k)) (k0_pay13 (k0_pay1 x) (rowBlk x k))⟩) rfl (fun k => ?_) _ (fun k y => ?_) rect1_cover
  · show (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) (k.val + 1)).2.2.2.1 = _
    rw [pb_k0_t1_succ]
    exact congrArg (· ++ _) (tripL_arg9 𝒱 c bd i arg1 harg1 arg2 harg2 arg3 harg3 arg4 harg4 arg5 harg5 arg6 harg6 arg7 harg7 arg8 harg8 arg9 harg9 arg10 harg10 arg11 harg11 h1 x k)
  · exact glue1_emb (fun k => k0_pay3 (k0_pay12 (k0_pay1 x) (rowBlk x k)) (k0_pay13 (k0_pay1 x) (rowBlk x k))) k y

/-- What one trip writes into `arg10`: one piece. -/
theorem tripL_arg10 (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 h1 x (harg1.unread x) k).2.2.2.2.1 = [⟨rect1 k, k0_pay4 x (k0_pay8 (rowBlk x k))⟩] := by
  have e : rowBlk x k = View.ld (arg1.view.read (Elt F) (harg1.unread x)) (rect1 k) := by rw [harg1.read_unread]; rfl
  rw [e]
  unfold tripL_k0_t1 trip_k0_t1
  rfl

/-- What `arg10` holds after the loop. -/
theorem loop_arg10 (f : arg10.view.ty.Contents (Elt F)) :
    arg10.view.read (Elt F) (arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) k0_t1_loop.trips).2.2.2.2.1) = XO x := by
  refine read_pieces arg10 f (fun n => (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) n).2.2.2.2.1)
    (fun k => ⟨rect1 k, k0_pay4 x (k0_pay8 (rowBlk x k))⟩) rfl (fun k => ?_) _ (fun k y => ?_) rect1_cover
  · show (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) (k.val + 1)).2.2.2.2.1 = _
    rw [pb_k0_t1_succ]
    exact congrArg (· ++ _) (tripL_arg10 𝒱 c bd i arg1 harg1 arg2 harg2 arg3 harg3 arg4 harg4 arg5 harg5 arg6 harg6 arg7 harg7 arg8 harg8 arg9 harg9 arg10 harg10 arg11 harg11 h1 x k)
  · exact glue1_emb (fun k => k0_pay4 x (k0_pay8 (rowBlk x k))) k y

/-- What one trip writes into `arg11`: one piece. -/
theorem tripL_arg11 (k : Fin k0_t1_loop.trips) :
    (tripL_k0_t1 (F := F) 𝒱 c bd i arg1 harg1 arg2 harg2 arg3 harg3 arg4 harg4 arg5 harg5 arg6 harg6 arg7 harg7 arg8 harg8 arg9 harg9 arg10 harg10 arg11 harg11 h1 x (harg1.unread x) k).2.2.2.2.2 = [⟨rect2 k, k0_pay6 (k0_pay11 (k0_pay1 x) (rowBlk x k))⟩] := by
  have e : rowBlk x k = View.ld (arg1.view.read (Elt F) (harg1.unread x)) (rect1 k) := by rw [harg1.read_unread]; rfl
  rw [e]
  unfold tripL_k0_t1 trip_k0_t1
  rfl

/-- What `arg11` holds after the loop. -/
theorem loop_arg11 (f : arg11.view.ty.Contents (Elt F)) :
    arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) k0_t1_loop.trips).2.2.2.2.2) = SS x := by
  refine read_pieces arg11 f (fun n => (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) n).2.2.2.2.2)
    (fun k => ⟨rect2 k, k0_pay6 (k0_pay11 (k0_pay1 x) (rowBlk x k))⟩) rfl (fun k => ?_) _ (fun k y => ?_) rect2_cover
  · show (pb_k0_t1 (F := F) 𝒱 c bd i arg1 harg1 arg2 harg2 arg3 harg3 arg4 harg4 arg5 harg5 arg6 harg6 arg7 harg7 arg8 harg8 arg9 harg9 arg10 harg10 arg11 harg11 h1 x (harg1.unread x) (k.val + 1)).2.2.2.2.2 = _
    rw [pb_k0_t1_succ]
    exact congrArg (· ++ _) (tripL_arg11 𝒱 c bd i arg1 harg1 arg2 harg2 arg3 harg3 arg4 harg4 arg5 harg5 arg6 harg6 arg7 harg7 arg8 harg8 arg9 harg9 arg10 harg10 arg11 harg11 h1 x k)
  · exact glue2_emb (fun k => k0_pay6 (k0_pay11 (k0_pay1 x) (rowBlk x k))) k y

end Loop

end Cert.KernelIdeal.Hand

end
-- ==== Proof.Whole.lean ====
/- Loads and stores of whole buffers. -/
module

public import Idealize.ShloMosaic.Lib.Pipeline.Value
public import Idealize.ShloMosaic.Lib.Pipeline.ValueKit
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- A buffer whose last write is of the whole of it holds that write's payload. -/
theorem read_whole {s : Shape} {e : EltTy} {sp : Space} (mr : Memref sig .tc sp s e) (f : mr.view.ty.Contents (Elt F))
    {off : Fin s.rank → Nat} (h : off = fun _ => 0) (inb : ∀ a, off a + s.size a ≤ s.size a) (w : s.Idx → Elt F e) :
    mr.view.read (Elt F) (mr.view.writes (Elt F) f [⟨Rect.unit off s.size inb, w⟩]) = w := by
  subst h
  have hi : ∀ x : s.Idx, (Rect.unit (fun _ => 0) s.size inb).idx x = x := fun x => funext fun a => Fin.ext (by
    show 0 + 1 * (x a).val = (x a).val; omega)
  funext y
  refine View.read_writes_apply_of_pieces _ _ w _ (fun p hp x => ?_) y ⟨_, List.mem_cons_self, ?_⟩
  · rcases List.mem_singleton.mp hp with rfl
    exact congrArg w (hi x).symm
  · refine (Rect.unit (fun _ => 0) s.size inb).mem_set.mpr fun a => ⟨(y a).val, (y a).isLt, ?_⟩
    show (y a).val = 0 + 1 * (y a).val; omega

/-- A load of a whole buffer reads what the buffer holds. -/
theorem readAt_whole {s : Shape} {e : EltTy} {sp : Space} (mr : Memref sig .tc sp s e) (f : mr.view.ty.Contents (Elt F))
    {off : Fin s.rank → Nat} (h : off = fun _ => 0) (inb : ∀ a, off a + s.size a ≤ s.size a) :
    mr.view.readAt (Elt F) (Rect.unit off s.size inb).toLoadRect f = mr.view.read (Elt F) f := by
  subst h
  funext x
  exact congrArg (mr.view.read (Elt F) f) (funext fun a => Fin.ext (by show 0 + 1 * (x a).val = (x a).val; omega))

theorem pay7_congr {w w' : Vec F S512x2048 .i8} {l l' o o' : Vec F S1024x2048 .bf16} {s s' : Vec F S1024x1 .f32} {q q' : Vec F S1x512 .f32}
    (hw : w = w') (hl : l = l') (ho : o = o') (hs : s = s') (hq : q = q') : k0_pay7 w l o s q = k0_pay7 w' l' o' s' q' := by
  rw [hw, hl, ho, hs, hq]

/-- The origin of a two-axis buffer. -/
theorem origin2 : (![0, 0] : Fin 2 → Nat) = fun _ => 0 := by funext a; match a with | ⟨0, _⟩ => rfl | ⟨1, _⟩ => rfl

end Cert.KernelIdeal.Hand

end
-- ==== Proof.RunA.lean ====
/- The body at the first point: it computes the outlier mask, quantises every row block, keeps what the
   later points need, and computes its own block of the result. -/
module

public import proofs.«01_k».proof.Proof.Points
public import proofs.«01_k».proof.Proof.LoopValue
public import proofs.«01_k».proof.Proof.Whole

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ

set_option maxHeartbeats 1000000 in
/-- The body where its conditional is taken: from the input blocks `x0`, `x1`, `x2` and buffers holding anything, every
    buffer ends with what the activations `x0` make it hold, and the block of the result is the two products scaled. -/
theorem runA (c : Dev nD) (i : grid0.Coords) (arg1 : Memref sig .tc .vmem S1024x2048 .bf16) (harg1 : arg1.IsWhole) (arg2 : Memref sig .tc .vmem S512x2048 .i8) (harg2 : arg2.IsWhole) (arg3 : Memref sig .tc .vmem S1x512 .f32) (harg3 : arg3.IsWhole) (arg4 : Memref sig .tc .vmem S1024x512 .bf16) (harg4 : arg4.IsWhole) (arg5 : Memref sig .tc .vmem S1x2048 .i32) (harg5 : arg5.IsWhole) (arg6 : Memref sig .tc .vmem S1024x2048 .i8) (harg6 : arg6.IsWhole) (arg7 : Memref sig .tc .vmem S1024x1 .f32) (harg7 : arg7.IsWhole) (arg8 : Memref sig .tc .vmem S1024x1 .i32) (harg8 : arg8.IsWhole) (arg9 : Memref sig .tc .vmem S1024x2048 .bf16) (harg9 : arg9.IsWhole) (arg10 : Memref sig .tc .vmem S1024x2048 .bf16) (harg10 : arg10.IsWhole) (arg11 : Memref sig .tc .vmem S1024x1 .f32) (harg11 : arg11.IsWhole) (hc0 : cond0_0 i)
    (x0 : Vec F S1024x2048 .bf16) (x1 : Vec F S512x2048 .i8) (x2 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay7 x1 (LHS x0) (XO x0) (SS x0) x2) ∗ owns (c : Thread nD τ) arg5 fullShare (k0_pay2 x0) ∗ owns (c : Thread nD τ) arg6 fullShare (CODES x0) ∗ owns (c : Thread nD τ) arg7 fullShare (SCALE x0) ∗ owns (c : Thread nD τ) arg8 fullShare (ZERO x0) ∗ owns (c : Thread nD τ) arg9 fullShare (LHS x0) ∗ owns (c : Thread nD τ) arg10 fullShare (XO x0) ∗ owns (c : Thread nD τ) arg11 fullShare (SS x0)) -∗ K ⟨⟩))
          ⊢ wp frame (wpE (defs₀ (F := F)) Variants.none c none) E (cc0_int8_outlier_linear i arg1 harg1 arg2 harg2 arg3 harg3 arg4 harg4 arg5 harg5 arg6 harg6 arg7 harg7 arg8 harg8 arg9 harg9 arg10 harg10 arg11 harg11) K := by
    intro E K
    simp only [cc0_int8_outlier_linear_eq_skeleton]; unfold cc0_int8_outlier_linear_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0)
    sl_step
    have hx : View.readAt (Elt F) arg1.view (Rect.unit ![0, 0] S1024x2048.size inb_S1024x2048_S1024x2048_0_0).toLoadRect (harg1.unread x0) = x0 := by
      rw [readAt_whole arg1 _ origin2, harg1.read_unread]
    iapply Hk
    isplitl [H0]
    · iexists _; isplitr; swap; · iexact H0
      ipureintro
      exact harg1.read_unread _
    isplitl [H1]
    · iexists _; isplitr; swap; · iexact H1
      ipureintro
      exact harg2.read_unread _
    isplitl [H2]
    · iexists _; isplitr; swap; · iexact H2
      ipureintro
      exact harg3.read_unread _
    isplitl [H3]
    · iexists _; isplitr; swap; · iexact H3
      ipureintro
      refine Eq.trans (read_whole arg4 _ origin2 _ _) ?_
      refine pay7_congr (Eq.trans (readAt_whole arg2 _ origin2 _) (harg2.read_unread _)) (Eq.trans (readAt_whole arg9 _ origin2 _) ?_)
        (Eq.trans (readAt_whole arg10 _ origin2 _) ?_) (Eq.trans (readAt_whole arg11 _ origin2 _) ?_) (Eq.trans (readAt_whole arg3 _ origin2 _) (harg3.read_unread _))
      · rw [hx]; exact loop_arg9 Variants.none c none i arg1 harg1 arg2 harg2 arg3 harg3 arg4 harg4 arg5 harg5 arg6 harg6 arg7 harg7 arg8 harg8 arg9 harg9 arg10 harg10 arg11 harg11 hc0 x0 _
      · rw [hx]; exact loop_arg10 Variants.none c none i arg1 harg1 arg2 harg2 arg3 harg3 arg4 harg4 arg5 harg5 arg6 harg6 arg7 harg7 arg8 harg8 arg9 harg9 arg10 harg10 arg11 harg11 hc0 x0 _
      · rw [hx]; exact loop_arg11 Variants.none c none i arg1 harg1 arg2 harg2 arg3 harg3 arg4 harg4 arg5 harg5 arg6 harg6 arg7 harg7 arg8 harg8 arg9 harg9 arg10 harg10 arg11 harg11 hc0 x0 _
    isplitl [H4]
    · iexists _; isplitr; swap; · iexact H4
      ipureintro
      refine Eq.trans (read_whole arg5 _ origin2 _ _) ?_; rw [hx]
    isplitl [H5]
    · iexists _; isplitr; swap; · iexact H5
      ipureintro
      rw [hx]; exact loop_arg6 Variants.none c none i arg1 harg1 arg2 harg2 arg3 harg3 arg4 harg4 arg5 harg5 arg6 harg6 arg7 harg7 arg8 harg8 arg9 harg9 arg10 harg10 arg11 harg11 hc0 x0 _
    isplitl [H6]
    · iexists _; isplitr; swap; · iexact H6
      ipureintro
      rw [hx]; exact loop_arg7 Variants.none c none i arg1 harg1 arg2 harg2 arg3 harg3 arg4 harg4 arg5 harg5 arg6 harg6 arg7 harg7 arg8 harg8 arg9 harg9 arg10 harg10 arg11 harg11 hc0 x0 _
    isplitl [H7]
    · iexists _; isplitr; swap; · iexact H7
      ipureintro
      rw [hx]; exact loop_arg8 Variants.none c none i arg1 harg1 arg2 harg2 arg3 harg3 arg4 harg4 arg5 harg5 arg6 harg6 arg7 harg7 arg8 harg8 arg9 harg9 arg10 harg10 arg11 harg11 hc0 x0 _
    isplitl [HS0]
    · iexists _; isplitr; swap; · iexact HS0
      ipureintro
      rw [hx]; exact loop_arg9 Variants.none c none i arg1 harg1 arg2 harg2 arg3 harg3 arg4 harg4 arg5 harg5 arg6 harg6 arg7 harg7 arg8 harg8 arg9 harg9 arg10 harg10 arg11 harg11 hc0 x0 _
    isplitl [HS1]
    · iexists _; isplitr; swap; · iexact HS1
      ipureintro
      rw [hx]; exact loop_arg10 Variants.none c none i arg1 harg1 arg2 harg2 arg3 harg3 arg4 harg4 arg5 harg5 arg6 harg6 arg7 harg7 arg8 harg8 arg9 harg9 arg10 harg10 arg11 harg11 hc0 x0 _
    iexists _; isplitr; swap; · iexact HS2
    ipureintro
    rw [hx]; exact loop_arg11 Variants.none c none i arg1 harg1 arg2 harg2 arg3 harg3 arg4 harg4 arg5 harg5 arg6 harg6 arg7 harg7 arg8 harg8 arg9 harg9 arg10 harg10 arg11 harg11 hc0 x0 _

end Cert.KernelIdeal.Hand

end
-- ==== Proof.RunB.lean ====
/- The body at every later point: it computes its block of the result from what the first point kept,
   and leaves every other buffer as it was. -/
module

public import proofs.«01_k».proof.Proof.Points
public import proofs.«01_k».proof.Proof.Whole

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ

set_option maxHeartbeats 1000000 in
/-- The body where its conditional is not taken: from the input blocks `x0`, `x1`, `x2` and kept arrays `l`, `o`, `s`, the
    block of the result is the two products scaled; all the rest stays. -/
theorem runB (c : Dev nD) (i : grid0.Coords) (arg1 : Memref sig .tc .vmem S1024x2048 .bf16) (harg1 : arg1.IsWhole) (arg2 : Memref sig .tc .vmem S512x2048 .i8) (harg2 : arg2.IsWhole) (arg3 : Memref sig .tc .vmem S1x512 .f32) (harg3 : arg3.IsWhole) (arg4 : Memref sig .tc .vmem S1024x512 .bf16) (harg4 : arg4.IsWhole) (arg5 : Memref sig .tc .vmem S1x2048 .i32) (harg5 : arg5.IsWhole) (arg6 : Memref sig .tc .vmem S1024x2048 .i8) (harg6 : arg6.IsWhole) (arg7 : Memref sig .tc .vmem S1024x1 .f32) (harg7 : arg7.IsWhole) (arg8 : Memref sig .tc .vmem S1024x1 .i32) (harg8 : arg8.IsWhole) (arg9 : Memref sig .tc .vmem S1024x2048 .bf16) (harg9 : arg9.IsWhole) (arg10 : Memref sig .tc .vmem S1024x2048 .bf16) (harg10 : arg10.IsWhole) (arg11 : Memref sig .tc .vmem S1024x1 .f32) (harg11 : arg11.IsWhole) (hc0 : ¬cond0_0 i)
    (x0 : Vec F S1024x2048 .bf16) (x1 : Vec F S512x2048 .i8) (x2 : Vec F S1x512 .f32) (d4 : Vec F S1x2048 .i32) (d5 : Vec F S1024x2048 .i8)
    (d6 : Vec F S1024x1 .f32) (d7 : Vec F S1024x1 .i32) (l : Vec F S1024x2048 .bf16) (o : Vec F S1024x2048 .bf16) (s : Vec F S1024x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ owns (c : Thread nD τ) arg6 fullShare d5 ∗ owns (c : Thread nD τ) arg7 fullShare d6 ∗ owns (c : Thread nD τ) arg8 fullShare d7 ∗ owns (c : Thread nD τ) arg9 fullShare l ∗ owns (c : Thread nD τ) arg10 fullShare o ∗ owns (c : Thread nD τ) arg11 fullShare s
            ∗ (iprop(owns (c : Thread nD τ) arg1 fullShare x0 ∗ owns (c : Thread nD τ) arg2 fullShare x1 ∗ owns (c : Thread nD τ) arg3 fullShare x2 ∗ owns (c : Thread nD τ) arg4 fullShare (k0_pay7 x1 l o s x2) ∗ owns (c : Thread nD τ) arg5 fullShare d4 ∗ owns (c : Thread nD τ) arg6 fullShare d5 ∗ owns (c : Thread nD τ) arg7 fullShare d6 ∗ owns (c : Thread nD τ) arg8 fullShare d7 ∗ owns (c : Thread nD τ) arg9 fullShare l ∗ owns (c : Thread nD τ) arg10 fullShare o ∗ owns (c : Thread nD τ) arg11 fullShare s) -∗ K ⟨⟩))
          ⊢ wp frame (wpE (defs₀ (F := F)) Variants.none c none) E (cc0_int8_outlier_linear i arg1 harg1 arg2 harg2 arg3 harg3 arg4 harg4 arg5 harg5 arg6 harg6 arg7 harg7 arg8 harg8 arg9 harg9 arg10 harg10 arg11 harg11) K := by
    intro E K
    simp only [cc0_int8_outlier_linear_eq_skeleton]; unfold cc0_int8_outlier_linear_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2
    obtain rfl := harg5.eq_unread hf4; obtain rfl := harg6.eq_unread hf5; obtain rfl := harg7.eq_unread hf6; obtain rfl := harg8.eq_unread hf7
    obtain rfl := harg9.eq_unread hfs0; obtain rfl := harg10.eq_unread hfs1; obtain rfl := harg11.eq_unread hfs2
    sl_exec (disch := first | sl_exact hc0)
    sl_step
    iapply Hk
    isplitl [H0]
    · iexists _; isplitr; swap; · iexact H0
      ipureintro
      exact harg1.read_unread _
    isplitl [H1]
    · iexists _; isplitr; swap; · iexact H1
      ipureintro
      exact harg2.read_unread _
    isplitl [H2]
    · iexists _; isplitr; swap; · iexact H2
      ipureintro
      exact harg3.read_unread _
    isplitl [H3]
    · iexists _; isplitr; swap; · iexact H3
      ipureintro
      refine Eq.trans (read_whole arg4 _ origin2 _ _) ?_
      rw [readAt_whole arg2 _ origin2, readAt_whole arg3 _ origin2, readAt_whole arg9 _ origin2, readAt_whole arg10 _ origin2, readAt_whole arg11 _ origin2, harg2.read_unread, harg3.read_unread, harg9.read_unread, harg10.read_unread, harg11.read_unread]
    isplitl [H4]
    · iexists _; isplitr; swap; · iexact H4
      ipureintro
      exact harg5.read_unread _
    isplitl [H5]
    · iexists _; isplitr; swap; · iexact H5
      ipureintro
      exact harg6.read_unread _
    isplitl [H6]
    · iexists _; isplitr; swap; · iexact H6
      ipureintro
      exact harg7.read_unread _
    isplitl [H7]
    · iexists _; isplitr; swap; · iexact H7
      ipureintro
      exact harg8.read_unread _
    isplitl [HS0]
    · iexists _; isplitr; swap; · iexact HS0
      ipureintro
      exact harg9.read_unread _
    isplitl [HS1]
    · iexists _; isplitr; swap; · iexact HS1
      ipureintro
      exact harg10.read_unread _
    iexists _; isplitr; swap; · iexact HS2
    ipureintro
    exact harg11.read_unread _

end Cert.KernelIdeal.Hand

end
-- ==== Proof.Sound.lean ====
/- The body at every point, the run of the whole program, and the frame. -/
module

public import proofs.«01_k».proof.Proof.Data
public import proofs.«01_k».proof.Proof.RunA
public import proofs.«01_k».proof.Proof.RunB
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- What the body takes at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at the first point: it fills the scratch and stores every result. -/
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_first m c t.castSucc h0, Phi_later m c t.succ (by simp), PhiA0_eq]
  rw [show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [(idle0_4 t).mpr (by omega)], after0_4]
  rw [show (dats m 0 c).leavesExact 5 t = owns (c : Thread nD τ) (ms0_5 t) fullShare ((dats m 0 c).after 5 t) from by
      unfold Dat.leavesExact; rw [(idle0_5 t).mpr (by omega)], after0_5]
  rw [show (dats m 0 c).leavesExact 6 t = owns (c : Thread nD τ) (ms0_6 t) fullShare ((dats m 0 c).after 6 t) from by
      unfold Dat.leavesExact; rw [(idle0_6 t).mpr (by omega)], after0_6]
  rw [show (dats m 0 c).leavesExact 7 t = owns (c : Thread nD τ) (ms0_7 t) fullShare ((dats m 0 c).after 7 t) from by
      unfold Dat.leavesExact; rw [(idle0_7 t).mpr (by omega)], after0_7]
  unfold kept0
  simp only [iblk0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ _ _ _ _ _ _ _ _ _ _ _ _ _ _ _ _ _ _ _ _ _ ((hcond0_0 t).mpr (by omega)) (XA m c) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The body at a later point: it reads what the first point kept and stores its block of the result. -/
theorem sound_later (c : Dev nD) (t : Fin cfg0.N) (h0 : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [Phi_later m c t.castSucc h0, Phi_later m c t.succ (by simp)]
  rw [show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  have hN : t.val < 11 := lt_of_lt_of_eq t.isLt N_0
  unfold kept0
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ _ _ (fun h => h0 (by have := (hcond0_0 t).mp h; omega)) (iblk m c 0 t) (iblk m c 1 t) (iblk m c 2 t)
    _ _ _ _ (LHS (XA m c)) (XO (XA m c)) (SS (XA m c))) Set.univ _)
  isplitl [H0]; · iexact H0
  isplitl [H1]; · iexact H1
  isplitl [H2]; · iexact H2
  isplitl [H3]; · iexists _; iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iapply (leaves0_4 m c t h0 d4); iexact H4
  isplitl [H5]; · iapply (leaves0_5 m c t h0 d5); iexact H5
  isplitl [H6]; · iapply (leaves0_6 m c t h0 d6); iexact H6
  iapply (leaves0_7 m c t h0 d7); iexact H7

/-- The body at any point. -/
theorem sound_body (c : Dev nD) (t : Fin cfg0.N) :
    bodyPre m c t ⊢ wp frame (wpE (defs₀ (F := F)) Variants.none c none) Set.univ (bodyAt0 t) (fun _ => bodyPost m c t) :=
  if h : t.val = 0 then sound_first m c t h else sound_later m c t h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's triple at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : Pipeline.ΦA spec0 c ⊢ (dats m 0 c).Φ 0 := by
  rw [Phi_first m c 0 rfl]

theorem Phi_out (c : Dev nD) : (dats m 0 c).Φ (Fin.last cfg0.N) ⊢ Pipeline.ΦA spec0 c := by
  rw [Phi_later m c _ (by rw [Fin.val_last, show cfg0.N = 11 from N_0]; decide), PhiA0_eq]
  unfold kept0
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The run: every array ends as the pipeline's data say, and every semaphore counter is zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main_quiescent m ρ))

/-- The frame: every execution ends, with the argument arrays unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Final.lean ====
/- What the result arrays hold at the end of the run. -/
module

public import proofs.«01_k».proof.Proof.Sound
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- The activations as the region finds them are the argument, its first two axes merged. -/
theorem XA_eq (c : Dev nD) : XA m c = shapeCast S1024x2048 (m ((c : Thread nD τ).loc main_arg0)) shapeCasts_S4x256x2048_S1024x2048 := by
  unfold XA; entry_read; rfl

/-- The weight scales as the region finds them are the argument with a unit axis in front. -/
theorem ws_eq (c : Dev nD) : V m c main_v1 = shapeCast S1x5632 (m ((c : Thread nD τ).loc main_arg2)) shapeCasts_S5632_S1x5632 := by
  entry_read; rfl

/-- Block `b` of the weights: 512 rows. -/
def wBlk (w : Vec F S5632x2048 .i8) (b : Fin 11) : Vec F S512x2048 .i8 :=
  fun y => w (ix2 ⟨b.val * 512 + (y 0).val, by have h1 := b.isLt; have h2 : (y 0).val < 512 := (y 0).isLt; omega⟩ (y 1))

/-- Block `b` of the weight scales: 512 columns. -/
def wsBlk (ws : Vec F S1x5632 .f32) (b : Fin 11) : Vec F S1x512 .f32 :=
  fun y => ws (ix2 (y 0) ⟨b.val * 512 + (y 1).val, by have h1 := b.isLt; have h2 : (y 1).val < 512 := (y 1).isLt; omega⟩)

/-- The block an output column is in, and its place there. -/
def colBlk (j : Fin 5632) : Fin 11 := ⟨j.val / 512, by have := j.isLt; omega⟩
def inBlk (j : Fin 5632) : Fin 512 := ⟨j.val % 512, Nat.mod_lt _ (by decide)⟩

/-- The result, column block by column block. -/
def YV (x : Vec F S1024x2048 .bf16) (w : Vec F S5632x2048 .i8) (ws : Vec F S1x5632 .f32) : Vec F S1024x5632 .bf16 :=
  fun j => k0_pay7 (wBlk w (colBlk (j 1))) (LHS x) (XO x) (SS x) (wsBlk ws (colBlk (j 1))) (ix2 (j 0) (inBlk (j 1)))

theorem pt_lt (t : Fin cfg0.N) : t.val < 11 := lt_of_lt_of_eq t.isLt N_0

/-- The weights' block at a point. -/
theorem iblk1_eq (c : Dev nD) (t : Fin cfg0.N) : iblk m c 1 t = wBlk (m ((c : Thread nD τ).loc main_arg1)) ⟨t.val, pt_lt t⟩ := by
  have idx : ∀ t : Fin cfg0.N, win0_1.index t = ![t.val, 0] := (by decide +kernel : ∀ t : Fin grid0.N, _)
  funext y
  unfold wBlk
  rw [← V_main_arg1 m c]
  blk_ext! [iblk, idx t]

/-- The weight scales' block at a point. -/
theorem iblk2_eq (c : Dev nD) (t : Fin cfg0.N) : iblk m c 2 t = wsBlk (V m c main_v1) ⟨t.val, pt_lt t⟩ := by
  have idx : ∀ t : Fin cfg0.N, win0_2.index t = ![0, t.val] := (by decide +kernel : ∀ t : Fin grid0.N, _)
  funext y
  unfold wsBlk
  blk_ext! [iblk, idx t]

/-- The result at the place of element `y` of point `t`'s block is that point's value at `y`. -/
theorem YV_at (x : Vec F S1024x2048 .bf16) (w : Vec F S5632x2048 .i8) (ws : Vec F S1x5632 .f32) (b : Fin 11) (j : S1024x5632.Idx) (y : S1024x512.Idx)
    (h0 : (j 0).val = (y 0).val) (h1 : (j 1).val = b.val * 512 + (y 1).val) :
    YV x w ws j = k0_pay7 (wBlk w b) (LHS x) (XO x) (SS x) (wsBlk ws b) y := by
  have hy : (y 1).val < 512 := (y 1).isLt
  have e1 : colBlk (j 1) = b := Fin.ext (by show (j 1).val / 512 = b.val; omega)
  have e2 : ix2 (j 0) (inBlk (j 1)) = y := by
    funext a; apply Fin.ext
    match a with
    | ⟨0, _⟩ => exact h0
    | ⟨1, _⟩ => show (j 1).val % 512 = (y 1).val; omega
  exact congr (congrArg (fun b => k0_pay7 (wBlk w b) (LHS x) (XO x) (SS x) (wsBlk ws b)) e1) e2

/-- The result array after the run. -/
theorem arr_y (c : Dev nD) : (dats m 0 c).arrAt 3 cfg0.N = YV (XA m c) (m ((c : Thread nD τ).loc main_arg1)) (V m c main_v1) := by
  have idx : ∀ t : Fin cfg0.N, win0_3.index t = ![0, t.val] := (by decide +kernel : ∀ t : Fin grid0.N, _)
  refine (dats m 0 c).arrAt_eq_of_covers 3 _ (by decide +kernel) fun t hf y => ?_
  blk_simp
  rw [after0_3, iblk1_eq, iblk2_eq]
  refine (YV_at _ _ _ ⟨t.val, pt_lt t⟩ _ y ?_ ?_).symm
  · blk_simp [idx t]
  · blk_simp [idx t]

/-- The last point. -/
def tLast : Fin cfg0.N := ⟨10, by rw [show cfg0.N = 11 from N_0]; decide⟩

/-- The `mask` array after the run: one block, written back at the last point. -/
theorem arr_mask (c : Dev nD) : (dats m 0 c).arrAt 4 cfg0.N = k0_pay2 (XA m c) := by
  refine (dats m 0 c).arrAt_eq_of_after_last 4 tLast (by decide +kernel) _ fun j => ?_
  blk_simp
  rw [after0_4]

/-- The `codes` array after the run: one block, written back at the last point. -/
theorem arr_codes (c : Dev nD) : (dats m 0 c).arrAt 5 cfg0.N = CODES (XA m c) := by
  refine (dats m 0 c).arrAt_eq_of_after_last 5 tLast (by decide +kernel) _ fun j => ?_
  blk_simp
  rw [after0_5]

/-- The `scale` array after the run: one block, written back at the last point. -/
theorem arr_scale (c : Dev nD) : (dats m 0 c).arrAt 6 cfg0.N = SCALE (XA m c) := by
  refine (dats m 0 c).arrAt_eq_of_after_last 6 tLast (by decide +kernel) _ fun j => ?_
  blk_simp
  rw [after0_6]

/-- The `zero` array after the run: one block, written back at the last point. -/
theorem arr_zero (c : Dev nD) : (dats m 0 c).arrAt 7 cfg0.N = ZERO (XA m c) := by
  refine (dats m 0 c).arrAt_eq_of_after_last 7 tLast (by decide +kernel) _ fun j => ?_
  blk_simp
  rw [after0_7]

/-- The windows' arrays are distinct. -/
theorem arrRef_inj : Function.Injective (Pipeline.arrRef spec0) := by decide

/-- The `y` result: that array, reshaped. -/
theorem res_y (c : Dev nD) : Pipeline.afterTail₀ cfgs (dats m) 0 (V0 m) [hostOps1] c main_v3 = shapeCast S4x256x5632 ((dats m 0 c).arrAt 3 cfg0.N) shapeCasts_S1024x5632_S4x256x5632 := by
  unfold Pipeline.afterTail₀
  simp only [hostOps1, List.flatten_cons, List.flatten_nil, List.append_nil]
  after_results
  exact congrArg (fun A => shapeCast S4x256x5632 A shapeCasts_S1024x5632_S4x256x5632)
    (Pipeline.withArrays_arr spec0 arrRef_inj c (V0 m c) (fun w => (dats m 0 c).arrAt w cfg0.N) 3)

/-- The `mask` result: that array, reshaped. -/
theorem res_mask (c : Dev nD) : Pipeline.afterTail₀ cfgs (dats m) 0 (V0 m) [hostOps1] c main_v4 = shapeCast S2048 ((dats m 0 c).arrAt 4 cfg0.N) shapeCasts_S1x2048_S2048 := by
  unfold Pipeline.afterTail₀
  simp only [hostOps1, List.flatten_cons, List.flatten_nil, List.append_nil]
  after_results
  exact congrArg (fun A => shapeCast S2048 A shapeCasts_S1x2048_S2048)
    (Pipeline.withArrays_arr spec0 arrRef_inj c (V0 m c) (fun w => (dats m 0 c).arrAt w cfg0.N) 4)

/-- The `codes` result: that array, reshaped. -/
theorem res_codes (c : Dev nD) : Pipeline.afterTail₀ cfgs (dats m) 0 (V0 m) [hostOps1] c main_v5 = shapeCast S4x256x2048 ((dats m 0 c).arrAt 5 cfg0.N) shapeCasts_S1024x2048_S4x256x2048 := by
  unfold Pipeline.afterTail₀
  simp only [hostOps1, List.flatten_cons, List.flatten_nil, List.append_nil]
  after_results
  exact congrArg (fun A => shapeCast S4x256x2048 A shapeCasts_S1024x2048_S4x256x2048)
    (Pipeline.withArrays_arr spec0 arrRef_inj c (V0 m c) (fun w => (dats m 0 c).arrAt w cfg0.N) 5)

/-- The `scale` result: that array, reshaped. -/
theorem res_scale (c : Dev nD) : Pipeline.afterTail₀ cfgs (dats m) 0 (V0 m) [hostOps1] c main_v6 = shapeCast S4x256 ((dats m 0 c).arrAt 6 cfg0.N) shapeCasts_S1024x1_S4x256 := by
  unfold Pipeline.afterTail₀
  simp only [hostOps1, List.flatten_cons, List.flatten_nil, List.append_nil]
  after_results
  exact congrArg (fun A => shapeCast S4x256 A shapeCasts_S1024x1_S4x256)
    (Pipeline.withArrays_arr spec0 arrRef_inj c (V0 m c) (fun w => (dats m 0 c).arrAt w cfg0.N) 6)

/-- The `zero` result: that array, reshaped. -/
theorem res_zero (c : Dev nD) : Pipeline.afterTail₀ cfgs (dats m) 0 (V0 m) [hostOps1] c main_v7 = shapeCast S4x256 ((dats m 0 c).arrAt 7 cfg0.N) shapeCasts_S1024x1_S4x256 := by
  unfold Pipeline.afterTail₀
  simp only [hostOps1, List.flatten_cons, List.flatten_nil, List.append_nil]
  after_results
  exact congrArg (fun A => shapeCast S4x256 A shapeCasts_S1024x1_S4x256)
    (Pipeline.withArrays_arr spec0 arrRef_inj c (V0 m c) (fun w => (dats m 0 c).arrAt w cfg0.N) 7)

/-- The run of the whole program, its results named by the arguments. -/
theorem run : θ_run defs (onTc (τ := τ) (main (F := F))) ⟨m, fun _ => 0, ρ⟩ fun r => ∀ c : Dev nD,
      r.2.mem ((c : Thread nD τ).loc main_v3) = shapeCast S4x256x5632 (YV (XA m c) (m ((c : Thread nD τ).loc main_arg1)) (V m c main_v1)) shapeCasts_S1024x5632_S4x256x5632
      ∧ r.2.mem ((c : Thread nD τ).loc main_v4) = shapeCast S2048 (k0_pay2 (XA m c)) shapeCasts_S1x2048_S2048
      ∧ r.2.mem ((c : Thread nD τ).loc main_v5) = shapeCast S4x256x2048 (CODES (XA m c)) shapeCasts_S1024x2048_S4x256x2048
      ∧ r.2.mem ((c : Thread nD τ).loc main_v6) = shapeCast S4x256 (SCALE (XA m c)) shapeCasts_S1024x1_S4x256
      ∧ r.2.mem ((c : Thread nD τ).loc main_v7) = shapeCast S4x256 (ZERO (XA m c)) shapeCasts_S1024x1_S4x256
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
    ((h.1.1 c).2 main_v3 (Pipeline.mem_restRefs_of main_v3 (by decide) (by decide))).trans ((res_y m c).trans (congrArg (fun A => shapeCast S4x256x5632 A shapeCasts_S1024x5632_S4x256x5632) (arr_y m c))),
    ((h.1.1 c).2 main_v4 (Pipeline.mem_restRefs_of main_v4 (by decide) (by decide))).trans ((res_mask m c).trans (congrArg (fun A => shapeCast S2048 A shapeCasts_S1x2048_S2048) (arr_mask m c))),
    ((h.1.1 c).2 main_v5 (Pipeline.mem_restRefs_of main_v5 (by decide) (by decide))).trans ((res_codes m c).trans (congrArg (fun A => shapeCast S4x256x2048 A shapeCasts_S1024x2048_S4x256x2048) (arr_codes m c))),
    ((h.1.1 c).2 main_v6 (Pipeline.mem_restRefs_of main_v6 (by decide) (by decide))).trans ((res_scale m c).trans (congrArg (fun A => shapeCast S4x256 A shapeCasts_S1024x1_S4x256) (arr_scale m c))),
    ((h.1.1 c).2 main_v7 (Pipeline.mem_restRefs_of main_v7 (by decide) (by decide))).trans ((res_zero m c).trans (congrArg (fun A => shapeCast S4x256 A shapeCasts_S1024x1_S4x256) (arr_zero m c))),
    (h.2 c).1, (h.2 c).2.1, (h.2 c).2.2⟩)
    (θ_run_and (run_main_quiescent m ρ) (unchanged m ρ))

end Cert.KernelIdeal.Hand

end
-- ==== Proof.KerArr.lean ====
/-
  WHAT THE KERNEL'S ARRAYS HOLD, at an index, in the terms of the row's mathematics: the codes, scales and zero points of
  every row, and the product's entries.
-/
module

public import proofs.«01_k».proof.Proof.KerRead
public import proofs.«01_k».proof.Proof.Final

@[expose] public section

set_option maxRecDepth 16384

noncomputable section

namespace Cert.KerArr

open Cert.KernelIdeal Cert.KernelIdeal.Gen Cert.KernelIdeal.Hand Cert.Model
open Idealize.ShloMosaic

variable (x : Vec Ideal S1024x2048 .bf16)

/-- Row `r` of the activations. -/
def row (r : Fin 1024) : Fin 2048 → EReal := fun l => x (ix2 r l)

/-- Row `r` with the outlier columns set to zero. -/
def zrow (r : Fin 1024) : Fin 2048 → EReal := inlier (KerRead.mask x) (row x r)

/-- The masked row of a row block, at row `r`'s place, is row `r` masked. -/
theorem zrow_block (r : Fin 1024) : KerRead.zrow (k0_pay1 x) (rowBlk x (tripOf r)) (inTrip r) = zrow x r := by
  have e1 : (fun l : Fin 2048 => k0_pay1 x (ix2 0 l)) = KerRead.mask x := funext fun l => KerRead.pay1_apply x l
  have e2 : (fun l : Fin 2048 => rowBlk x (tripOf r) (ix2 (inTrip r) l)) = row x r := funext fun l => rowBlk_apply x r l
  unfold KerRead.zrow zrow
  rw [e1, e2]

/-- The codes' array. -/
theorem codes_apply (r : Fin 1024) (l : Fin 2048) : CODES x (ix2 r l) = Ideal.fptosi 8 (codeOf (zrow x r) l) := by
  refine (glue1_apply (fun k => k0_pay14 (k0_pay1 x) (rowBlk x k)) r l).trans ?_
  rw [KerRead.pay14_apply, zrow_block]

/-- The scales' column. -/
theorem scale_apply (r : Fin 1024) : SCALE x (ix2 r 0) = scaleOf (zrow x r) := by
  refine (glue2_apply (fun k => k0_pay11 (k0_pay1 x) (rowBlk x k)) r 0).trans ?_
  rw [KerRead.pay11_apply, zrow_block]

/-- The zero points' column. -/
theorem zero_apply (r : Fin 1024) : ZERO x (ix2 r 0) = Ideal.fptosi 32 (zeroOf (zrow x r)) := by
  refine (glue2_apply (fun k => k0_pay5 (k0_pay12 (k0_pay1 x) (rowBlk x k))) r 0).trans ?_
  rw [KerRead.pay5_apply, zrow_block]

/-- The codes less their zero points. -/
theorem lhs_apply (r : Fin 1024) (l : Fin 2048) : LHS x (ix2 r l) = codeOf (zrow x r) l - zeroOf (zrow x r) := by
  refine (glue1_apply (fun k => k0_pay3 (k0_pay12 (k0_pay1 x) (rowBlk x k)) (k0_pay13 (k0_pay1 x) (rowBlk x k))) r l).trans ?_
  rw [KerRead.pay3_apply, zrow_block]

/-- The outlier part. -/
theorem xo_apply (r : Fin 1024) (l : Fin 2048) : XO x (ix2 r l) = outlier (KerRead.mask x) (row x r) l := by
  refine (glue1_apply (fun k => k0_pay4 x (k0_pay8 (rowBlk x k))) r l).trans ?_
  refine (KerRead.pay4_apply (rowBlk x (tripOf r)) x (inTrip r) l).trans ?_
  exact congrArg (fun f => outlier (KerRead.mask x) f l) (funext fun l => rowBlk_apply x r l)

/-- The scales kept. -/
theorem ss_apply (r : Fin 1024) : SS x (ix2 r 0) = scaleOf (zrow x r) := by
  refine (glue2_apply (fun k => k0_pay6 (k0_pay11 (k0_pay1 x) (rowBlk x k))) r 0).trans ?_
  rw [KerRead.pay6_apply, zrow_block]

/-- Row `n` of the weights, found in its block. -/
theorem wBlk_apply (w : Vec Ideal S5632x2048 .i8) (n : Fin 5632) (l : Fin 2048) :
    wBlk w (colBlk n) (ix2 (inBlk n) l) = w (ix2 n l) := by
  have e : (⟨n.val / 512 * 512 + n.val % 512, by have := n.isLt; omega⟩ : Fin 5632) = n := Fin.ext (by show n.val / 512 * 512 + n.val % 512 = n.val; omega)
  exact congrArg (fun i : Fin 5632 => w (ix2 i l)) e

/-- Column `n`'s weight scale, found in its block. -/
theorem wsBlk_apply (ws : Vec Ideal S1x5632 .f32) (n : Fin 5632) :
    wsBlk ws (colBlk n) (ix2 0 (inBlk n)) = ws (ix2 0 n) := by
  have e : (⟨n.val / 512 * 512 + n.val % 512, by have := n.isLt; omega⟩ : Fin 5632) = n := Fin.ext (by show n.val / 512 * 512 + n.val % 512 = n.val; omega)
  exact congrArg (fun i : Fin 5632 => ws (ix2 0 i)) e

/-- The product's entries. -/
theorem y_apply (w : Vec Ideal S5632x2048 .i8) (ws : Vec Ideal S1x5632 .f32) (r : Fin 1024) (n : Fin 5632) :
    YV x w ws (ix2 r n) = yOf (KerRead.mask x) (row x r) (fun l => w (ix2 n l)) (ws (ix2 0 n)) := by
  refine (KerRead.pay7_apply (wBlk w (colBlk n)) (LHS x) (XO x) (SS x) (wsBlk ws (colBlk n)) r (inBlk n)).trans ?_
  have e1 : ∀ l : Fin 2048, LHS x (ix2 r l) * (((wBlk w (colBlk n) (ix2 (inBlk n) l)).toInt : ℝ) : EReal)
      = (codeOf (zrow x r) l - zeroOf (zrow x r)) * (((w (ix2 n l)).toInt : ℝ) : EReal) := fun l => by rw [lhs_apply, wBlk_apply]
  have e2 : ∀ l : Fin 2048, XO x (ix2 r l) * (((wBlk w (colBlk n) (ix2 (inBlk n) l)).toInt : ℝ) : EReal)
      = outlier (KerRead.mask x) (row x r) l * (((w (ix2 n l)).toInt : ℝ) : EReal) := fun l => by rw [xo_apply, wBlk_apply]
  rw [Finset.sum_congr rfl fun l _ => e1 l, Finset.sum_congr rfl fun l _ => e2 l, ss_apply, wsBlk_apply]
  rfl

end Cert.KerArr

end
-- ==== Proof.Arith.lean ====
/-
  ARITHMETIC OF THE CODES. The clipped values of a quantization are integers between −128 and 127, so that writing one as
  a machine integer and reading it back changes nothing, that a product of a shifted code distributes over the shift, and
  that the machine sum of a row of 8-bit weights does not wrap.
-/
module

public import proofs.«01_k».proof.Proof.Model

@[expose] public section

noncomputable section

namespace Cert.Model

open Idealize.ShloMosaic

/-- The lower clip bound is −128. -/
theorem lo_eq : Ideal.ofBits .f32 0xC3000000#32 = ((-128 : ℝ) : EReal) := by
  simp [Ideal.ofBits, Ideal.ieee, -EReal.coe_mul]; norm_num

/-- The upper clip bound is 127. -/
theorem hi_eq : Ideal.ofBits .f32 0x42FE0000#32 = ((127 : ℝ) : EReal) := by
  simp [Ideal.ofBits, Ideal.ieee, -EReal.coe_mul]; norm_num

/-- The integer −128, converted, is the lower clip bound. -/
theorem lo_int : (((4294967168#32).toInt : ℝ) : EReal) = Ideal.ofBits .f32 0xC3000000#32 := by
  rw [lo_eq, show (4294967168#32).toInt = -128 from rfl]; norm_num

/-- The integer 127, converted, is the upper clip bound. -/
theorem hi_int : (((127#32).toInt : ℝ) : EReal) = Ideal.ofBits .f32 0x42FE0000#32 := by
  rw [hi_eq, show (127#32).toInt = 127 from rfl]; norm_num

/-- An infinity or an integer. -/
def IsInt (v : EReal) : Prop := v = ⊤ ∨ v = ⊥ ∨ ∃ n : ℤ, v = ((n : ℝ) : EReal)

/-- A rounded value is an infinity or an integer. -/
theorem isInt_rnd (v : EReal) : IsInt (rnd v) := by
  induction v with
  | bot => exact .inr (.inl rfl)
  | top => exact .inl rfl
  | coe r => exact .inr (.inr ⟨_, rfl⟩)

/-- Such a value taken from the lower clip bound is again one. -/
theorem isInt_lo_sub {v : EReal} (h : IsInt v) : IsInt (Ideal.ofBits .f32 0xC3000000#32 - v) := by
  rw [lo_eq]
  rcases h with rfl | rfl | ⟨n, rfl⟩
  · exact .inr (.inl (by simp [sub_eq_add_neg]))
  · exact .inl (by simp [sub_eq_add_neg])
  · exact .inr (.inr ⟨-128 - n, by rw [← EReal.coe_sub]; push_cast; rfl⟩)

/-- Such a value with an integer added is again one. -/
theorem isInt_add {v : EReal} (h : IsInt v) (k : ℤ) : IsInt (v + ((k : ℝ) : EReal)) := by
  rcases h with rfl | rfl | ⟨n, rfl⟩
  · exact .inl (EReal.top_add_coe _)
  · exact .inr (.inl (EReal.bot_add _))
  · exact .inr (.inr ⟨n + k, by rw [← EReal.coe_add]; push_cast; rfl⟩)

/-- Clipped, such a value is an integer between −128 and 127. -/
theorem clip_int {v : EReal} (h : IsInt v) : ∃ n : ℤ, -128 ≤ n ∧ n ≤ 127 ∧ clip v = ((n : ℝ) : EReal) := by
  rw [clip, lo_eq, hi_eq]
  rcases h with rfl | rfl | ⟨n, rfl⟩
  · exact ⟨127, by omega, by omega, by rw [max_eq_right le_top, min_eq_left le_top]; norm_num⟩
  · refine ⟨-128, by omega, by omega, ?_⟩
    rw [max_eq_left bot_le, min_eq_right (by exact_mod_cast (by norm_num : (-128 : ℝ) ≤ 127))]; norm_num
  · refine ⟨min 127 (max (-128) n), by omega, by omega, ?_⟩
    have e : ((min 127 (max (-128) n) : ℤ) : ℝ) = min (127 : ℝ) (max (-128 : ℝ) (n : ℝ)) := by push_cast; rfl
    rw [e, EReal.coe_strictMono.monotone.map_min, EReal.coe_strictMono.monotone.map_max]

/-- A zero point is an integer between −128 and 127. -/
theorem zeroOf_int (z : Fin 2048 → EReal) : ∃ n : ℤ, -128 ≤ n ∧ n ≤ 127 ∧ zeroOf z = ((n : ℝ) : EReal) :=
  clip_int (isInt_lo_sub (isInt_rnd _))

/-- A code is an integer between −128 and 127. -/
theorem codeOf_int (z : Fin 2048 → EReal) (l : Fin 2048) : ∃ n : ℤ, -128 ≤ n ∧ n ≤ 127 ∧ codeOf z l = ((n : ℝ) : EReal) := by
  obtain ⟨k, _, _, hk⟩ := zeroOf_int z
  rw [codeOf, hk]
  exact clip_int (isInt_add (isInt_rnd _) k)

/-- Writing an integer between −128 and 127 as an 8-bit code and reading it back gives it again. -/
theorem roundtrip8 (n : ℤ) (h1 : -128 ≤ n) (h2 : n ≤ 127) : (Ideal.fptosi 8 ((n : ℝ) : EReal)).toInt = n := by
  have e : Ideal.toIntClamped (-(2 ^ (8 - 1) : Nat)) ((2 ^ (8 - 1) : Nat) - 1) ((n : ℝ) : EReal) = n := by
    rw [Ideal.toIntClamped_coe, Int.floor_intCast, Int.ceil_intCast, ite_self]; omega
  rw [Ideal.fptosi, e, BitVec.toInt_ofInt_eq_self (by omega) (by omega) (by omega)]

/-- The same at 32 bits. -/
theorem roundtrip32 (n : ℤ) (h1 : -128 ≤ n) (h2 : n ≤ 127) : (Ideal.fptosi 32 ((n : ℝ) : EReal)).toInt = n := by
  have e : Ideal.toIntClamped (-(2 ^ (32 - 1) : Nat)) ((2 ^ (32 - 1) : Nat) - 1) ((n : ℝ) : EReal) = n := by
    rw [Ideal.toIntClamped_coe, Int.floor_intCast, Int.ceil_intCast, ite_self]; omega
  rw [Ideal.fptosi, e, BitVec.toInt_ofInt_eq_self (by omega) (by omega) (by omega)]

/-- A code written at 8 bits and read back is the code. -/
theorem code_roundtrip (z : Fin 2048 → EReal) (l : Fin 2048) :
    (((Ideal.fptosi 8 (codeOf z l)).toInt : ℝ) : EReal) = codeOf z l := by
  obtain ⟨n, h1, h2, e⟩ := codeOf_int z l
  rw [e, roundtrip8 n h1 h2]

/-- A zero point written at 32 bits and read back is the zero point. -/
theorem zero_roundtrip (z : Fin 2048 → EReal) :
    (((Ideal.fptosi 32 (zeroOf z)).toInt : ℝ) : EReal) = zeroOf z := by
  obtain ⟨n, h1, h2, e⟩ := zeroOf_int z
  rw [e, roundtrip32 n h1 h2]

/-- The machine sum of a family is the word of the sum of its integers. -/
theorem fold_addi {ι : Type} (s : Finset ι) (f : ι → BitVec 32) :
    s.fold IntOp.addi 0#32 f = BitVec.ofInt 32 (∑ i ∈ s, (f i).toInt) := by
  classical
  induction s using Finset.induction_on with
  | empty => rfl
  | insert i s h ih =>
    rw [Finset.fold_insert h, Finset.sum_insert h, ih, BitVec.ofInt_add, BitVec.ofInt_toInt]
    rfl

/-- The sum of a row of 8-bit weights lies well inside 32 bits. -/
theorem sum_bound (w : Fin 2048 → BitVec 8) : -262144 ≤ ∑ l, (w l).toInt ∧ ∑ l, (w l).toInt ≤ 262144 := by
  have hl : ∀ l, -128 ≤ (w l).toInt := fun l => BitVec.le_toInt (w l)
  have hu : ∀ l, (w l).toInt ≤ 128 := fun l => by
    have h : (w l).toInt < 2 ^ (8 - 1) := BitVec.toInt_lt
    omega
  constructor
  · have := Finset.card_nsmul_le_sum Finset.univ (fun l => (w l).toInt) (-128) fun l _ => hl l
    simpa using this
  · have := Finset.sum_le_card_nsmul Finset.univ (fun l => (w l).toInt) 128 fun l _ => hu l
    simpa using this

/-- The machine sum of a row of 8-bit weights does not wrap. -/
theorem rowSum_toInt (w : Fin 2048 → BitVec 8) :
    ((Finset.univ : Finset (Fin 2048)).fold IntOp.addi 0#32 fun l => (w l).signExtend 32).toInt = ∑ l, (w l).toInt := by
  rw [fold_addi]
  have e : (∑ l, ((w l).signExtend 32).toInt) = ∑ l, (w l).toInt :=
    Finset.sum_congr rfl fun l _ => BitVec.toInt_signExtend_of_le (by omega)
  obtain ⟨h1, h2⟩ := sum_bound w
  rw [e, BitVec.toInt_ofInt_eq_self (by omega) (by omega) (by omega)]

/-- A finite sum of reals, among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => rfl
  | insert i s h ih => rw [Finset.sum_insert h, Finset.sum_insert h, ih, EReal.coe_add]

/-- The product of the shifted codes with a row of weights: the product of the codes, less the zero point times the sum
    of the weights. -/
theorem shift_sum (z : Fin 2048 → EReal) (w : Fin 2048 → BitVec 8) :
    ∑ l, (codeOf z l - zeroOf z) * (((w l).toInt : ℝ) : EReal)
      = (∑ l, codeOf z l * (((w l).toInt : ℝ) : EReal)) - zeroOf z * (((∑ l, (w l).toInt : ℤ) : ℝ) : EReal) := by
  obtain ⟨k, _, _, hk⟩ := zeroOf_int z
  choose q _ _ hq using codeOf_int z
  simp only [hk, hq]
  simp only [← EReal.coe_sub, ← EReal.coe_mul, coe_sum]
  congr 1
  push_cast
  rw [Finset.mul_sum, ← Finset.sum_sub_distrib]
  exact Finset.sum_congr rfl fun l _ => sub_mul _ _ _

/-- Masking a factor is masking the product. -/
theorem select_mul (k : BitVec 1) (a b : EReal) :
    Scalar.select k (a * b) 0 = Scalar.select k a (Ideal.ofBits .f32 0x00000000#32) * b := by
  rw [Ideal.ofBits_zero_f32]
  unfold Scalar.select
  split <;> simp

end Cert.Model
-- ==== Proof.RefRead.lean ====
/-
  WHAT THE REFERENCE COMPUTES, at an index, in the terms of the row's mathematics: the outlier mask, the masked row, its
  least value, scale and zero point, and the rounded quotients.
-/
module

public import proofs.«01_k».proof.Proof.Arith
public import proofs.«01_k».proof.Proof.Gen.ReferenceIdeal.Value

@[expose] public section

set_option maxRecDepth 16384

noncomputable section

namespace Cert.RefRead

open Cert.ReferenceIdeal Cert.ReferenceIdeal.Gen Cert.Model
open Idealize.ShloMosaic

variable (a : Vec Ideal S4x256x2048 .bf16)

/-- The outlier mask of the activations `a`. -/
def mask (l : Fin 2048) : BitVec 1 := isOut (magMax fun p : Fin 4 × Fin 256 => a (ix3 p.1 p.2 l))

/-- Row `(b, s)` of the activations. -/
def row (b : Fin 4) (s : Fin 256) : Fin 2048 → EReal := fun l => a (ix3 b s l)

/-- Row `(b, s)` with the outlier columns set to zero. -/
def zrow (b : Fin 4) (s : Fin 256) : Fin 2048 → EReal := inlier (mask a) (row a b s)

/-- Comparing any array of magnitudes with six. -/
theorem out_aux (u : FVec Ideal S2048 .f32) (j : S2048.Idx) :
    cmpf .ogt u (broadcast S2048 (Scalar.ofBits .f32 0x40C00000#32)) j = isOut (u j) := rfl

/-- The magnitude of an element. -/
theorem abs_aux (i : S4x256x2048.Idx) : absf (k0_pay1 a) i = max (a i) (-(a i)) := rfl

/-- The reference's greatest magnitude of a column. -/
theorem mag_apply (l : Fin 2048) :
    multiReduction .maximumf [0, 1] S2048 (absf (k0_pay1 a)) 0xFF800000#32 reduces_S4x256x2048_S2048 (.inl rfl) rfl (ix1 l)
      = magMax fun p : Fin 4 × Fin 256 => a (ix3 p.1 p.2 l) :=
  (max_r3_a01 (n0 := 4) (n1 := 256) (n2 := 2048) (absf (k0_pay1 a)) 0xFF800000#32 reduces_S4x256x2048_S2048 (.inl rfl) rfl l).trans
    (foldMax_congr fun p => abs_aux a (ix3 p.1 p.2 l))

/-- The reference's mask is the outlier mask. -/
theorem pay2_apply (l : Fin 2048) : k0_pay2 a (ix1 l) = mask a l :=
  (out_aux (multiReduction .maximumf [0, 1] S2048 (absf (k0_pay1 a)) 0xFF800000#32 reduces_S4x256x2048_S2048 (.inl rfl) rfl) (ix1 l)).trans
    (congrArg isOut (mag_apply a l))

/-- Masking by a vector of bits along the lanes, for any bits and any array. -/
theorem mask_aux (k : IVec S2048 1) (x : FVec Ideal S4x256x2048 .f32) (b : Fin 4) (s : Fin 256) (l : Fin 2048) :
    select (broadcastTo S4x256x2048 (shapeCast S1x1x2048 (shapeCast S1x1x2048 k shapeCasts_S2048_S1x1x2048) shapeCasts_S1x1x2048_S1x1x2048) broadcasts_S1x1x2048_S4x256x2048)
        (broadcast S4x256x2048 (Scalar.ofBits .f32 0x00000000#32)) x (ix3 b s l)
      = Scalar.select (k (ix1 l)) (Ideal.ofBits .f32 0x00000000#32) (x (ix3 b s l)) := by
  pointwise []

/-- The reference's masked array at `(b, s, l)`. -/
theorem pay4_apply (b : Fin 4) (s : Fin 256) (l : Fin 2048) : k0_pay4 a (ix3 b s l) = zrow a b s l := by
  refine (mask_aux (k0_pay2 a) (k0_pay1 a) b s l).trans ?_
  exact congrArg (fun t => Scalar.select t (Ideal.ofBits .f32 0x00000000#32) (a (ix3 b s l))) (pay2_apply a l)

/-- The lesser of an array's element and zero. -/
theorem min_aux (u : FVec Ideal S4x256 .f32) (j : S4x256.Idx) :
    minimumf u (broadcast S4x256 (Scalar.ofBits .f32 0x00000000#32)) j = minZero (u j) := rfl

/-- The least value of a row of the reference's masked array. -/
theorem rowMin_apply (b : Fin 4) (s : Fin 256) :
    multiReduction .minimumf [2] S4x256 (k0_pay4 a) 0x7F800000#32 reduces_S4x256x2048_S4x256 (.inl rfl) rfl (ix2 b s)
      = (Finset.univ : Finset (Fin 2048)).fold (min : EReal → EReal → EReal) (Ideal.ofBits .f32 0x7F800000#32) (zrow a b s) :=
  (min_r3_a2 (n0 := 4) (n1 := 256) (n2 := 2048) (k0_pay4 a) 0x7F800000#32 reduces_S4x256x2048_S4x256 (.inl rfl) rfl b s).trans
    (foldMin_congr fun l => pay4_apply a b s l)

/-- The greatest value of a row of the reference's masked array. -/
theorem rowMax_apply (b : Fin 4) (s : Fin 256) :
    multiReduction .maximumf [2] S4x256 (k0_pay4 a) 0xFF800000#32 reduces_S4x256x2048_S4x256 (.inl rfl) rfl (ix2 b s)
      = (Finset.univ : Finset (Fin 2048)).fold (max : EReal → EReal → EReal) (Ideal.ofBits .f32 0xFF800000#32) (zrow a b s) :=
  (max_r3_a2 (n0 := 4) (n1 := 256) (n2 := 2048) (k0_pay4 a) 0xFF800000#32 reduces_S4x256x2048_S4x256 (.inl rfl) rfl b s).trans
    (foldMax_congr fun l => pay4_apply a b s l)

/-- The reference's least values. -/
theorem pay5_apply (b : Fin 4) (s : Fin 256) : k0_pay5 a (ix2 b s) = amin (zrow a b s) :=
  (min_aux (multiReduction .minimumf [2] S4x256 (k0_pay4 a) 0x7F800000#32 reduces_S4x256x2048_S4x256 (.inl rfl) rfl) (ix2 b s)).trans
    (congrArg minZero (rowMin_apply a b s))

/-- The scale's last steps, for any arrays of greatest and least values. -/
theorem scale_aux (u v : FVec Ideal S4x256 .f32) (j : S4x256.Idx) :
    select (cmpf .oeq (maximumf u (broadcast S4x256 (Scalar.ofBits .f32 0x00000000#32))) v) (broadcast S4x256 (Scalar.ofBits .f32 0x3F800000#32))
        (divf (subf (maximumf u (broadcast S4x256 (Scalar.ofBits .f32 0x00000000#32))) v) (broadcast S4x256 (Scalar.ofBits .f32 0x437F0000#32))) j
      = scaleFn (maxZero (u j)) (v j) := rfl

/-- The reference's scales. -/
theorem pay6_apply (b : Fin 4) (s : Fin 256) : k0_pay6 a (ix2 b s) = scaleOf (zrow a b s) :=
  (scale_aux (multiReduction .maximumf [2] S4x256 (k0_pay4 a) 0xFF800000#32 reduces_S4x256x2048_S4x256 (.inl rfl) rfl) (k0_pay5 a) (ix2 b s)).trans
    (congr (congrArg scaleFn (congrArg maxZero (rowMax_apply a b s))) (pay5_apply a b s))

/-- Rounded quotients by a column, for any array and column. -/
theorem pay8_aux (z : FVec Ideal S4x256x2048 .f32) (v : FVec Ideal S4x256 .f32) (b : Fin 4) (s : Fin 256) (l : Fin 2048) :
    roundeven (divf z (broadcastTo S4x256x2048 (shapeCast S4x256x1 v shapeCasts_S4x256_S4x256x1) broadcasts_S4x256x1_S4x256x2048)) (ix3 b s l)
      = rnd (Ideal.div (z (ix3 b s l)) (v (ix2 b s))) := by
  pointwise [rnd]

/-- The reference's rounded quotients. -/
theorem pay8_apply (b : Fin 4) (s : Fin 256) (l : Fin 2048) :
    k0_pay8 a (ix3 b s l) = rnd (Ideal.div (zrow a b s l) (scaleOf (zrow a b s))) := by
  refine (pay8_aux (k0_pay4 a) (k0_pay6 a) b s l).trans ?_
  rw [pay4_apply, pay6_apply]

/-- The zero point's last steps, for any arrays of least values and scales. -/
theorem pay7_aux (u v : FVec Ideal S4x256 .f32) (j : S4x256.Idx) :
    fptosi 32 (minimumf (broadcast S4x256 (Scalar.sitofp .f32 127#32)) (maximumf (broadcast S4x256 (Scalar.sitofp .f32 4294967168#32))
        (subf (broadcast S4x256 (Scalar.ofBits .f32 0xC3000000#32)) (roundeven (divf u v))))) j
      = Ideal.fptosi 32 (min (((127#32).toInt : ℝ) : EReal) (max (((4294967168#32).toInt : ℝ) : EReal)
          (Ideal.ofBits .f32 0xC3000000#32 - rnd (Ideal.div (u j) (v j))))) := rfl

/-- The reference's zero points, as words. -/
theorem pay7_apply (b : Fin 4) (s : Fin 256) : k0_pay7 a (ix2 b s) = Ideal.fptosi 32 (zeroOf (zrow a b s)) := by
  refine (pay7_aux (k0_pay5 a) (k0_pay6 a) (ix2 b s)).trans ?_
  rw [hi_int, lo_int, pay5_apply, pay6_apply]
  rfl

/-- A word read as a number. -/
theorem pay9_aux (v : IVec S4x256 32) (j : S4x256.Idx) :
    (sitofp .f32 v : FVec Ideal S4x256 .f32) j = (((v j).toInt : ℝ) : EReal) := rfl

/-- The reference's zero points, as numbers. -/
theorem pay9_apply (b : Fin 4) (s : Fin 256) : k0_pay9 a (ix2 b s) = zeroOf (zrow a b s) := by
  refine (pay9_aux (k0_pay7 a) (ix2 b s)).trans ?_
  rw [pay7_apply, zero_roundtrip]

/-- The codes' last steps, for any rounded quotients and zero points. -/
theorem pay10_aux (u : FVec Ideal S4x256x2048 .f32) (v : FVec Ideal S4x256 .f32) (b : Fin 4) (s : Fin 256) (l : Fin 2048) :
    k0_pay10 u v (ix3 b s l) = Ideal.fptosi 8 (min (((127#32).toInt : ℝ) : EReal) (max (((4294967168#32).toInt : ℝ) : EReal)
        (u (ix3 b s l) + v (ix2 b s)))) := by
  pointwise [k0_pay10]
  rfl

/-- The reference's codes. -/
theorem codes_apply (b : Fin 4) (s : Fin 256) (l : Fin 2048) :
    k0_pay10 (k0_pay8 a) (k0_pay9 a) (ix3 b s l) = Ideal.fptosi 8 (codeOf (zrow a b s) l) := by
  refine (pay10_aux (k0_pay8 a) (k0_pay9 a) b s l).trans ?_
  rw [hi_int, lo_int, pay8_apply, pay9_apply]
  rfl

/-- Bits widened to words. -/
theorem pay3_aux (v : IVec S2048 1) (j : S2048.Idx) : extui 32 v natLt_1_32 j = (v j).setWidth 32 := rfl

/-- The reference's mask, as words. -/
theorem pay3_apply (l : Fin 2048) : k0_pay3 a (ix1 l) = (mask a l).setWidth 32 :=
  (pay3_aux (k0_pay2 a) (ix1 l)).trans (congrArg (BitVec.setWidth 32) (pay2_apply a l))

/-- The product's entries, for any mask, scales, zero points and rounded quotients. -/
theorem pay11_aux (v0 : Vec Ideal S4x256x2048 .bf16) (v1 : Vec Ideal S5632x2048 .i8) (v2 : Vec Ideal S5632 .f32) (v7 : IVec S2048 1)
    (v25 : FVec Ideal S4x256 .f32) (v36 : IVec S4x256 32) (v40 : FVec Ideal S4x256x2048 .f32) (v41 : FVec Ideal S4x256 .f32)
    (b : Fin 4) (s : Fin 256) (n : Fin 5632) :
    k0_pay11 v0 v1 v2 v7 v25 v36 v40 v41 (ix3 b s n)
      = (((∑ l : Fin 2048, (((k0_pay10 v40 v41 (ix3 b s l)).toInt : ℝ) : EReal) * (((v1 (ix2 n l)).toInt : ℝ) : EReal))
            - (((v36 (ix2 b s)).toInt : ℝ) : EReal)
              * ((((Finset.univ : Finset (Fin 2048)).fold IntOp.addi 0#32 fun l => (v1 (ix2 n l)).signExtend 32).toInt : ℝ) : EReal)) * v25 (ix2 b s)
          + ∑ l : Fin 2048, Scalar.select (v7 (ix1 l)) (v0 (ix3 b s l) * (((v1 (ix2 n l)).toInt : ℝ) : EReal)) 0) * v2 (ix1 n) := by
  pointwise [k0_pay11]
  rfl

/-- The reference's product. -/
theorem y_apply (w : Vec Ideal S5632x2048 .i8) (ws : Vec Ideal S5632 .f32) (b : Fin 4) (s : Fin 256) (n : Fin 5632) :
    k0_pay11 a w ws (k0_pay2 a) (k0_pay6 a) (k0_pay7 a) (k0_pay8 a) (k0_pay9 a) (ix3 b s n)
      = yOf (mask a) (row a b s) (fun l => w (ix2 n l)) (ws (ix1 n)) := by
  refine (pay11_aux a w ws (k0_pay2 a) (k0_pay6 a) (k0_pay7 a) (k0_pay8 a) (k0_pay9 a) b s n).trans ?_
  rw [rowSum_toInt (fun l => w (ix2 n l)), pay6_apply, pay7_apply, zero_roundtrip]
  have e1 : ∀ l : Fin 2048, (((k0_pay10 (k0_pay8 a) (k0_pay9 a) (ix3 b s l)).toInt : ℝ) : EReal) * (((w (ix2 n l)).toInt : ℝ) : EReal)
      = codeOf (zrow a b s) l * (((w (ix2 n l)).toInt : ℝ) : EReal) := fun l => by rw [codes_apply, code_roundtrip]
  have e2 : ∀ l : Fin 2048, Scalar.select (k0_pay2 a (ix1 l)) (a (ix3 b s l) * (((w (ix2 n l)).toInt : ℝ) : EReal)) 0
      = outlier (mask a) (row a b s) l * (((w (ix2 n l)).toInt : ℝ) : EReal) := fun l => by rw [pay2_apply, select_mul]; rfl
  rw [Finset.sum_congr rfl fun l _ => e1 l, Finset.sum_congr rfl fun l _ => e2 l, ← shift_sum (zrow a b s) fun l => w (ix2 n l)]
  rfl

end Cert.RefRead

end
-- ==== Proof.Equation.lean ====
/-
  THE EQUATION. The kernel works on the activations with their first two axes merged; the reference works on them as they
  are. Row `b · 256 + s` of the one is row `(b, s)` of the other and the outlier masks agree, so each of the five results
  of the kernel, reshaped, is the reference's.
-/
module

public import proofs.«01_k».proof.Proof.Casts
public import proofs.«01_k».proof.Proof.KerArr
public import proofs.«01_k».proof.Proof.RefRead

@[expose] public section

set_option maxRecDepth 16384

noncomputable section

namespace Cert.Equation

open Cert.KernelIdeal (S1024x2048 S1024x5632 S1x5632 S1x2048 S1024x1)
open Cert.ReferenceIdeal (S4x256x2048 S5632x2048 S5632 S4x256 S2048 S4x256x5632)
open Cert.ReferenceIdeal.Gen (k0_pay2 k0_pay6 k0_pay7 k0_pay8 k0_pay9 k0_pay10 k0_pay11 k0_pay12 k0_pay13 k0_pay14 k0_pay15)
open Cert.Model
open Idealize.ShloMosaic

variable (a : Vec Ideal S4x256x2048 .bf16) (w : Vec Ideal S5632x2048 .i8) (ws : Vec Ideal S5632 .f32)

/-- The activations with their first two axes merged. -/
abbrev flat : Vec Ideal S1024x2048 .bf16 := shapeCast S1024x2048 a Cert.KernelIdeal.Gen.shapeCasts_S4x256x2048_S1024x2048

/-- The weight scales with a unit axis in front. -/
abbrev wsRow : Vec Ideal S1x5632 .f32 := shapeCast S1x5632 ws Cert.KernelIdeal.Gen.shapeCasts_S5632_S1x5632

/-- The merged row of `(b, s)`. -/
def flatRow (b : Fin 4) (s : Fin 256) : Fin 1024 := ⟨b.val * 256 + s.val, by omega⟩

/-- The merged row of `(b, s)` holds row `(b, s)`. -/
theorem flat_apply (b : Fin 4) (s : Fin 256) (l : Fin 2048) : flat a (ix2 (flatRow b s) l) = a (ix3 b s l) :=
  cast_merge (N := 1024) (n0 := 4) (n1 := 256) (n2 := 2048) a Cert.KernelIdeal.Gen.shapeCasts_S4x256x2048_S1024x2048 b s (flatRow b s) rfl l

/-- The weight scales with a unit axis in front, at a column. -/
theorem wsRow_apply (n : Fin 5632) : wsRow ws (ix2 0 n) = ws (ix1 n) :=
  cast_torow (n0 := 5632) ws Cert.KernelIdeal.Gen.shapeCasts_S5632_S1x5632 n

/-- The two outlier masks agree. -/
theorem mask_eq : KerRead.mask (flat a) = RefRead.mask a := by
  funext l
  refine congrArg isOut ((magMax_flat fun r => flat a (ix2 r l)).trans ?_)
  exact congrArg magMax (funext fun p : Fin 4 × Fin 256 => flat_apply a p.1 p.2 l)

/-- The two rows agree. -/
theorem row_eq (b : Fin 4) (s : Fin 256) : KerArr.row (flat a) (flatRow b s) = RefRead.row a b s :=
  funext fun l => flat_apply a b s l

/-- The two masked rows agree. -/
theorem zrow_eq (b : Fin 4) (s : Fin 256) : KerArr.zrow (flat a) (flatRow b s) = RefRead.zrow a b s := by
  unfold KerArr.zrow RefRead.zrow
  rw [mask_eq, row_eq]

/-- A load of the whole of the activations is the activations. -/
theorem ld_eq : View.ld a Cert.ReferenceIdeal.Gen.r0_0 = a :=
  View.ld_unit_zero (S := S4x256x2048) Cert.ReferenceIdeal.Value.hz0 _ a

/-- The reference's first result, its loads removed. -/
theorem g3_eq : Cert.ReferenceIdeal.Value.G3 a w ws = k0_pay11 a w ws (k0_pay2 a) (k0_pay6 a) (k0_pay7 a) (k0_pay8 a) (k0_pay9 a) := by
  unfold Cert.ReferenceIdeal.Value.G3 k0_pay12 k0_pay13 k0_pay14 k0_pay15
  rw [ld_eq]

/-- The reference's third result, its loads removed. -/
theorem g5_eq : Cert.ReferenceIdeal.Value.G5 a w ws = k0_pay10 (k0_pay8 a) (k0_pay9 a) := by
  unfold Cert.ReferenceIdeal.Value.G5 k0_pay14 k0_pay15
  rw [ld_eq]

/-- The reference's fourth result, its load removed. -/
theorem g6_eq : Cert.ReferenceIdeal.Value.G6 a w ws = k0_pay6 a := by
  unfold Cert.ReferenceIdeal.Value.G6 k0_pay12
  rw [ld_eq]

/-- The reference's fifth result, its load removed. -/
theorem g7_eq : Cert.ReferenceIdeal.Value.G7 a w ws = k0_pay7 a := by
  unfold Cert.ReferenceIdeal.Value.G7 k0_pay13
  rw [ld_eq]

/-- The first result: the product. -/
theorem y_eq : shapeCast S4x256x5632 (Cert.KernelIdeal.Hand.YV (flat a) w (wsRow ws)) Cert.KernelIdeal.Gen.shapeCasts_S1024x5632_S4x256x5632
    = Cert.ReferenceIdeal.Value.G3 a w ws := by
  rw [g3_eq]
  funext j
  obtain ⟨b, s, n, rfl⟩ : ∃ (b : Fin 4) (s : Fin 256) (n : Fin 5632), j = ix3 b s n := ⟨j 0, j 1, j 2, eq_ix3 j⟩
  refine (cast_split (N := 1024) (n0 := 4) (n1 := 256) (n2 := 5632) _ Cert.KernelIdeal.Gen.shapeCasts_S1024x5632_S4x256x5632 b s (flatRow b s) rfl n).trans ?_
  refine (KerArr.y_apply (flat a) w (wsRow ws) (flatRow b s) n).trans ?_
  rw [mask_eq, row_eq, wsRow_apply]
  exact (RefRead.y_apply a w ws b s n).symm

/-- The second result: the outlier mask. -/
theorem mask_out_eq : shapeCast S2048 (Cert.KernelIdeal.Gen.k0_pay2 (flat a)) Cert.KernelIdeal.Gen.shapeCasts_S1x2048_S2048
    = Cert.ReferenceIdeal.Value.G4 a w ws := by
  funext j
  obtain ⟨l, rfl⟩ : ∃ l : Fin 2048, j = ix1 l := ⟨j 0, eq_ix1 j⟩
  refine (cast_unrow (n0 := 2048) _ Cert.KernelIdeal.Gen.shapeCasts_S1x2048_S2048 l).trans ?_
  refine (KerRead.pay2_apply (flat a) l).trans ?_
  rw [mask_eq]
  exact (RefRead.pay3_apply a l).symm

/-- The third result: the codes. -/
theorem codes_eq : shapeCast S4x256x2048 (Cert.KernelIdeal.Hand.CODES (flat a)) Cert.KernelIdeal.Gen.shapeCasts_S1024x2048_S4x256x2048
    = Cert.ReferenceIdeal.Value.G5 a w ws := by
  rw [g5_eq]
  funext j
  obtain ⟨b, s, l, rfl⟩ : ∃ (b : Fin 4) (s : Fin 256) (l : Fin 2048), j = ix3 b s l := ⟨j 0, j 1, j 2, eq_ix3 j⟩
  refine (cast_split (N := 1024) (n0 := 4) (n1 := 256) (n2 := 2048) _ Cert.KernelIdeal.Gen.shapeCasts_S1024x2048_S4x256x2048 b s (flatRow b s) rfl l).trans ?_
  refine (KerArr.codes_apply (flat a) (flatRow b s) l).trans ?_
  rw [zrow_eq]
  exact (RefRead.codes_apply a b s l).symm

/-- The fourth result: the scales. -/
theorem scale_eq : shapeCast S4x256 (Cert.KernelIdeal.Hand.SCALE (flat a)) Cert.KernelIdeal.Gen.shapeCasts_S1024x1_S4x256
    = Cert.ReferenceIdeal.Value.G6 a w ws := by
  rw [g6_eq]
  funext j
  obtain ⟨b, s, rfl⟩ : ∃ (b : Fin 4) (s : Fin 256), j = ix2 b s := ⟨j 0, j 1, eq_ix2 j⟩
  refine (cast_fold (N := 1024) (n0 := 4) (n1 := 256) _ Cert.KernelIdeal.Gen.shapeCasts_S1024x1_S4x256 b s (flatRow b s) rfl).trans ?_
  refine (KerArr.scale_apply (flat a) (flatRow b s)).trans ?_
  rw [zrow_eq]
  exact (RefRead.pay6_apply a b s).symm

/-- The fifth result: the zero points. -/
theorem zero_eq : shapeCast S4x256 (Cert.KernelIdeal.Hand.ZERO (flat a)) Cert.KernelIdeal.Gen.shapeCasts_S1024x1_S4x256
    = Cert.ReferenceIdeal.Value.G7 a w ws := by
  rw [g7_eq]
  funext j
  obtain ⟨b, s, rfl⟩ : ∃ (b : Fin 4) (s : Fin 256), j = ix2 b s := ⟨j 0, j 1, eq_ix2 j⟩
  refine (cast_fold (N := 1024) (n0 := 4) (n1 := 256) _ Cert.KernelIdeal.Gen.shapeCasts_S1024x1_S4x256 b s (flatRow b s) rfl).trans ?_
  refine (KerArr.zero_apply (flat a) (flatRow b s)).trans ?_
  rw [zrow_eq]
  exact (RefRead.pay7_apply a b s).symm

end Cert.Equation

end
-- ==== Proof.KernelFrame.lean ====
/-
  THE KERNEL'S FRAME. The ideal program is the kernel's own text, and the frame of the ideal program is proved for every
  reading of the floats. So the two programs are the same term, and the frame of the one is the frame of the other.
-/
module

public import proofs.«01_k».proof.Proof.Sound
public import proofs.«01_k».proof.Proof.Gen.Kernel

@[expose] public section

set_option maxRecDepth 16384

noncomputable section

namespace Cert.Kernel.Hand

open Idealize.ShloMosaic Idealize.SL.Sem

variable {F : FTy → Type} [FloatOps F]

/-- The kernel's body table is the ideal program's. -/
theorem defs₀_eq : (Cert.Kernel.defs₀ (F := F)) = (Cert.KernelIdeal.defs₀ (F := F)) := by
  refine congrArg Defs.onTc (funext fun l => funext fun a => ?_)
  match l, a with
  | 0, (t, s) => rfl

/-- The same with the pipelines' labels. -/
theorem defs_eq : (Cert.Kernel.defs (F := F)) = (Cert.KernelIdeal.defs (F := F)) :=
  congrArg (Pipeline.defs (Cert.KernelIdeal.pcfgs (F := F))) defs₀_eq

open Cert.Kernel

/-- The frame: every execution ends, with the argument arrays unchanged and every counter zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq]
  exact Cert.KernelIdeal.Hand.frame m ρ

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import proofs.«01_k».proof.Proof.Sound
public import proofs.«01_k».proof.Proof.KernelFrame
public import Idealize.ShloMosaic.Adequacy
public import Idealize.ShloMosaic.Init

@[expose] public section

noncomputable section

namespace Cert.Proof

open Idealize.ShloMosaic Idealize.SL.Sem

/-- From memories agreeing on the arguments, the kernel and the reference, both read over the extended reals, run and end
    with the same five results: the product, the outlier mask, the codes, the scales and the zero points. No condition on
    the arguments. -/
theorem algebraic : Cert.algebraic_KernelIdeal_ReferenceIdeal := by
  intro m g m' g' _ hargs
  let A0 := fun c : Dev Cert.KernelIdeal.nD => m ((c.tc : Thread Cert.KernelIdeal.nD Cert.KernelIdeal.τ).loc Cert.KernelIdeal.main_arg0)
  let A1 := fun c : Dev Cert.KernelIdeal.nD => m ((c.tc : Thread Cert.KernelIdeal.nD Cert.KernelIdeal.τ).loc Cert.KernelIdeal.main_arg1)
  let A2 := fun c : Dev Cert.KernelIdeal.nD => m ((c.tc : Thread Cert.KernelIdeal.nD Cert.KernelIdeal.τ).loc Cert.KernelIdeal.main_arg2)
  refine ⟨fun c => Cert.ReferenceIdeal.Value.G3 (F := Ideal) (A0 c) (A1 c) (A2 c), fun c => Cert.ReferenceIdeal.Value.G4 (F := Ideal) (A0 c) (A1 c) (A2 c),
    fun c => Cert.ReferenceIdeal.Value.G5 (F := Ideal) (A0 c) (A1 c) (A2 c), fun c => Cert.ReferenceIdeal.Value.G6 (F := Ideal) (A0 c) (A1 c) (A2 c),
    fun c => Cert.ReferenceIdeal.Value.G7 (F := Ideal) (A0 c) (A1 c) (A2 c), ?_, ?_⟩
  · refine (θ_run _ _ _).mono (fun r h c => ?_) (Cert.KernelIdeal.Hand.run m g)
    obtain ⟨h0, h1, h2, h3, h4, k0, k1, k2⟩ := h c
    rw [Cert.KernelIdeal.Hand.XA_eq, Cert.KernelIdeal.Hand.ws_eq] at h0
    rw [Cert.KernelIdeal.Hand.XA_eq] at h1 h2 h3 h4
    exact ⟨h0.trans (Cert.Equation.y_eq (A0 c) (A1 c) (A2 c)), h1.trans (Cert.Equation.mask_out_eq (A0 c) (A1 c) (A2 c)),
      h2.trans (Cert.Equation.codes_eq (A0 c) (A1 c) (A2 c)), h3.trans (Cert.Equation.scale_eq (A0 c) (A1 c) (A2 c)),
      h4.trans (Cert.Equation.zero_eq (A0 c) (A1 c) (A2 c)), k0, k1, k2⟩
  · refine (θ_run _ _ _).mono (fun r h c => ?_) (Cert.ReferenceIdeal.Value.run m' g')
    obtain ⟨h0, h1, h2, h3, h4, k0, k1, k2⟩ := h c
    obtain ⟨e0, e1, e2⟩ := hargs c
    rw [e0, e1, e2] at h0 h1 h2 h3 h4
    exact ⟨h0, h1, h2, h3, h4, k0, k1, k2⟩

/-- The claims: the three programs each run to the end with their arguments unchanged and every semaphore at zero, the
    idealized kernel is the kernel's own text, and it computes what the idealized reference computes. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, algebraic⟩

end Cert.Proof

end
